-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ResKernel (m : (ℓ : Loc Cert.ResKernel.nD Cert.ResKernel.τ Cert.ResKernel.sig) → Buf (Elt Bits) ℓ) : Prop :=
  True

def Pre_ResKernelIdeal (m : (ℓ : Loc Cert.ResKernelIdeal.nD Cert.ResKernelIdeal.τ Cert.ResKernelIdeal.sig) → Buf (Elt Ideal) ℓ) : Prop :=
  True

def Pre_ResReferenceIdeal (m : (ℓ : Loc Cert.ResReferenceIdeal.nD Cert.ResReferenceIdeal.τ Cert.ResReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_finite_scan [hPre_finite_scan : Cert.Pre_finite_scan.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_finite_scan.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9)) (m ((c.tc : Thread Cert.MergeKernelIdeal.nD Cert.MergeKernelIdeal.τ).loc Cert.MergeKernelIdeal.main_arg10)) (m ((c.tc : Thread Cert.MergeKernelIdeal.nD Cert.MergeKernelIdeal.τ).loc Cert.MergeKernelIdeal.main_arg11)) (m ((c.tc : Thread Cert.MergeKernelIdeal.nD Cert.MergeKernelIdeal.τ).loc Cert.MergeKernelIdeal.main_arg12)) (m ((c.tc : Thread Cert.MergeKernelIdeal.nD Cert.MergeKernelIdeal.τ).loc Cert.MergeKernelIdeal.main_arg13)) (m ((c.tc : Thread Cert.MergeKernelIdeal.nD Cert.MergeKernelIdeal.τ).loc Cert.MergeKernelIdeal.main_arg14))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_finite_scan [hPre_finite_scan : Cert.Pre_finite_scan.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_finite_scan.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ResKernel [hResKernel : Cert.ResKernel.Facts] : Prop :=
  ∀ (m : (ℓ : Loc Cert.ResKernel.nD Cert.ResKernel.τ Cert.ResKernel.sig) → Buf (Elt Bits) ℓ) (g : Dev Cert.ResKernel.nD → PrngReg), Pre_ResKernel m →
    θ_run (Cert.ResKernel.defs (F := Bits)) (onTc (τ := Cert.ResKernel.τ) (Cert.ResKernel.main (F := Bits))) ⟨m, fun _ => 0, g⟩ (fun r => (∀ c : Dev Cert.ResKernel.nD,
      r.2.mem ((c.tc : Thread Cert.ResKernel.nD Cert.ResKernel.τ).loc Cert.ResKernel.main_arg0) = m ((c.tc : Thread Cert.ResKernel.nD Cert.ResKernel.τ).loc Cert.ResKernel.main_arg0)
      ∧ r.2.mem ((c.tc : Thread Cert.ResKernel.nD Cert.ResKernel.τ).loc Cert.ResKernel.main_arg1) = m ((c.tc : Thread Cert.ResKernel.nD Cert.ResKernel.τ).loc Cert.ResKernel.main_arg1)
      ∧ r.2.mem ((c.tc : Thread Cert.ResKernel.nD Cert.ResKernel.τ).loc Cert.ResKernel.main_arg2) = m ((c.tc : Thread Cert.ResKernel.nD Cert.ResKernel.τ).loc Cert.ResKernel.main_arg2)
      ∧ r.2.mem ((c.tc : Thread Cert.ResKernel.nD Cert.ResKernel.τ).loc Cert.ResKernel.main_arg3) = m ((c.tc : Thread Cert.ResKernel.nD Cert.ResKernel.τ).loc Cert.ResKernel.main_arg3))
      ∧ r.2.sem = fun _ => 0)

def quiescent_ResKernelIdeal [hResKernelIdeal : Cert.ResKernelIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg), Pre_ResKernelIdeal m →
    θ_run (Cert.ResKernelIdeal.defs (F := Ideal)) (onTc (τ := Cert.ResKernelIdeal.τ) (Cert.ResKernelIdeal.main (F := Ideal))) ⟨m, fun _ => 0, g⟩ (fun r => (∀ c : Dev Cert.ResKernelIdeal.nD,
      r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
      ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
      ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2)
      ∧ r.2.mem ((c.tc : Thread Cert.ResKernelIdeal.nD Cert.ResKernelIdeal.τ).loc Cert.ResKernelIdeal.main_arg3) = m ((c.tc : Thread Cert.ResKernelIdeal.nD Cert.ResKernelIdeal.τ).loc Cert.ResKernelIdeal.main_arg3))
      ∧ r.2.sem = fun _ => 0)

def quiescent_ResReferenceIdeal [hResReferenceIdeal : Cert.ResReferenceIdeal.Facts] : Prop :=
  ∀ (m : (ℓ : Loc Cert.ResReferenceIdeal.nD Cert.ResReferenceIdeal.τ Cert.ResReferenceIdeal.sig) → Buf (Elt Ideal) ℓ) (g : Dev Cert.ResReferenceIdeal.nD → PrngReg), Pre_ResReferenceIdeal m →
    θ_run (Cert.ResReferenceIdeal.defs (F := Ideal)) (onTc (τ := Cert.ResReferenceIdeal.τ) (Cert.ResReferenceIdeal.main (F := Ideal))) ⟨m, fun _ => 0, g⟩ (fun r => (∀ c : Dev Cert.ResReferenceIdeal.nD,
      r.2.mem ((c.tc : Thread Cert.ResReferenceIdeal.nD Cert.ResReferenceIdeal.τ).loc Cert.ResReferenceIdeal.main_arg0) = m ((c.tc : Thread Cert.ResReferenceIdeal.nD Cert.ResReferenceIdeal.τ).loc Cert.ResReferenceIdeal.main_arg0)
      ∧ r.2.mem ((c.tc : Thread Cert.ResReferenceIdeal.nD Cert.ResReferenceIdeal.τ).loc Cert.ResReferenceIdeal.main_arg1) = m ((c.tc : Thread Cert.ResReferenceIdeal.nD Cert.ResReferenceIdeal.τ).loc Cert.ResReferenceIdeal.main_arg1)
      ∧ r.2.mem ((c.tc : Thread Cert.ResReferenceIdeal.nD Cert.ResReferenceIdeal.τ).loc Cert.ResReferenceIdeal.main_arg2) = m ((c.tc : Thread Cert.ResReferenceIdeal.nD Cert.ResReferenceIdeal.τ).loc Cert.ResReferenceIdeal.main_arg2)
      ∧ r.2.mem ((c.tc : Thread Cert.ResReferenceIdeal.nD Cert.ResReferenceIdeal.τ).loc Cert.ResReferenceIdeal.main_arg3) = m ((c.tc : Thread Cert.ResReferenceIdeal.nD Cert.ResReferenceIdeal.τ).loc Cert.ResReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11)
      ∧ r.2.mem ((c.tc : Thread Cert.MergeKernel.nD Cert.MergeKernel.τ).loc Cert.MergeKernel.main_arg12) = m ((c.tc : Thread Cert.MergeKernel.nD Cert.MergeKernel.τ).loc Cert.MergeKernel.main_arg12)
      ∧ r.2.mem ((c.tc : Thread Cert.MergeKernel.nD Cert.MergeKernel.τ).loc Cert.MergeKernel.main_arg13) = m ((c.tc : Thread Cert.MergeKernel.nD Cert.MergeKernel.τ).loc Cert.MergeKernel.main_arg13)
      ∧ r.2.mem ((c.tc : Thread Cert.MergeKernel.nD Cert.MergeKernel.τ).loc Cert.MergeKernel.main_arg14) = m ((c.tc : Thread Cert.MergeKernel.nD Cert.MergeKernel.τ).loc Cert.MergeKernel.main_arg14))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
      ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13)
      ∧ r.2.mem ((c.tc : Thread Cert.MergeKernelIdeal.nD Cert.MergeKernelIdeal.τ).loc Cert.MergeKernelIdeal.main_arg14) = m ((c.tc : Thread Cert.MergeKernelIdeal.nD Cert.MergeKernelIdeal.τ).loc Cert.MergeKernelIdeal.main_arg14))
      ∧ r.2.sem = fun _ => 0)

def quiescent_MergeKernelIdeal_pre_finite_scan [hMergeKernelIdeal : Cert.MergeKernelIdeal.Facts] [hPre_finite_scan : Cert.Pre_finite_scan.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_finite_scan m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
      ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13)
      ∧ r.2.mem ((c.tc : Thread Cert.MergeKernelIdeal.nD Cert.MergeKernelIdeal.τ).loc Cert.MergeKernelIdeal.main_arg14) = m ((c.tc : Thread Cert.MergeKernelIdeal.nD Cert.MergeKernelIdeal.τ).loc Cert.MergeKernelIdeal.main_arg14))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14))
      ∧ r.2.sem = fun _ => 0)

def quiescent_MergeReferenceIdeal_pre_finite_scan [hMergeReferenceIdeal : Cert.MergeReferenceIdeal.Facts] [hPre_finite_scan : Cert.Pre_finite_scan.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_finite_scan m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_ResKernel_ResKernelIdeal : Prop :=
  True

def algebraic_ResKernelIdeal_ResReferenceIdeal [hResKernelIdeal : Cert.ResKernelIdeal.Facts] [hResReferenceIdeal : Cert.ResReferenceIdeal.Facts] : Prop :=
  ∀ (m : (ℓ : Loc Cert.ResKernelIdeal.nD Cert.ResKernelIdeal.τ Cert.ResKernelIdeal.sig) → Buf (Elt Ideal) ℓ) (g : Dev Cert.ResKernelIdeal.nD → PrngReg)
    (m' : (ℓ : Loc Cert.ResReferenceIdeal.nD Cert.ResReferenceIdeal.τ Cert.ResReferenceIdeal.sig) → Buf (Elt Ideal) ℓ) (g' : Dev Cert.ResReferenceIdeal.nD → PrngReg), Pre_ResKernelIdeal m →
    (∀ c : Dev Cert.ResKernelIdeal.nD,
      m' ((c.tc : Thread Cert.ResReferenceIdeal.nD Cert.ResReferenceIdeal.τ).loc Cert.ResReferenceIdeal.main_arg0) = m ((c.tc : Thread Cert.ResKernelIdeal.nD Cert.ResKernelIdeal.τ).loc Cert.ResKernelIdeal.main_arg0)
      ∧ m' ((c.tc : Thread Cert.ResReferenceIdeal.nD Cert.ResReferenceIdeal.τ).loc Cert.ResReferenceIdeal.main_arg1) = m ((c.tc : Thread Cert.ResKernelIdeal.nD Cert.ResKernelIdeal.τ).loc Cert.ResKernelIdeal.main_arg1)
      ∧ m' ((c.tc : Thread Cert.ResReferenceIdeal.nD Cert.ResReferenceIdeal.τ).loc Cert.ResReferenceIdeal.main_arg2) = m ((c.tc : Thread Cert.ResKernelIdeal.nD Cert.ResKernelIdeal.τ).loc Cert.ResKernelIdeal.main_arg2)
      ∧ m' ((c.tc : Thread Cert.ResReferenceIdeal.nD Cert.ResReferenceIdeal.τ).loc Cert.ResReferenceIdeal.main_arg3) = m ((c.tc : Thread Cert.ResKernelIdeal.nD Cert.ResKernelIdeal.τ).loc Cert.ResKernelIdeal.main_arg3)) →
    ∃ (v0 : (c : Dev Cert.ResKernelIdeal.nD) → Buf (Elt Ideal) ((c.tc : Thread Cert.ResKernelIdeal.nD Cert.ResKernelIdeal.τ).loc Cert.ResKernelIdeal.main_v19)),
      θ_run (Cert.ResKernelIdeal.defs (F := Ideal)) (onTc (τ := Cert.ResKernelIdeal.τ) (Cert.ResKernelIdeal.main (F := Ideal))) ⟨m, fun _ => 0, g⟩ (fun r => ∀ c : Dev Cert.ResKernelIdeal.nD,
          r.2.mem ((c.tc : Thread Cert.ResKernelIdeal.nD Cert.ResKernelIdeal.τ).loc Cert.ResKernelIdeal.main_v19) = v0 c
          ∧ r.2.mem ((c.tc : Thread Cert.ResKernelIdeal.nD Cert.ResKernelIdeal.τ).loc Cert.ResKernelIdeal.main_arg0) = m ((c.tc : Thread Cert.ResKernelIdeal.nD Cert.ResKernelIdeal.τ).loc Cert.ResKernelIdeal.main_arg0)
          ∧ r.2.mem ((c.tc : Thread Cert.ResKernelIdeal.nD Cert.ResKernelIdeal.τ).loc Cert.ResKernelIdeal.main_arg1) = m ((c.tc : Thread Cert.ResKernelIdeal.nD Cert.ResKernelIdeal.τ).loc Cert.ResKernelIdeal.main_arg1)
          ∧ r.2.mem ((c.tc : Thread Cert.ResKernelIdeal.nD Cert.ResKernelIdeal.τ).loc Cert.ResKernelIdeal.main_arg2) = m ((c.tc : Thread Cert.ResKernelIdeal.nD Cert.ResKernelIdeal.τ).loc Cert.ResKernelIdeal.main_arg2)
          ∧ r.2.mem ((c.tc : Thread Cert.ResKernelIdeal.nD Cert.ResKernelIdeal.τ).loc Cert.ResKernelIdeal.main_arg3) = m ((c.tc : Thread Cert.ResKernelIdeal.nD Cert.ResKernelIdeal.τ).loc Cert.ResKernelIdeal.main_arg3))
      ∧ θ_run (Cert.ResReferenceIdeal.defs (F := Ideal)) (onTc (τ := Cert.ResReferenceIdeal.τ) (Cert.ResReferenceIdeal.main (F := Ideal))) ⟨m', fun _ => 0, g'⟩ (fun r => ∀ c : Dev Cert.ResReferenceIdeal.nD,
          r.2.mem ((c.tc : Thread Cert.ResReferenceIdeal.nD Cert.ResReferenceIdeal.τ).loc Cert.ResReferenceIdeal.main_v15) = v0 c
          ∧ r.2.mem ((c.tc : Thread Cert.ResReferenceIdeal.nD Cert.ResReferenceIdeal.τ).loc Cert.ResReferenceIdeal.main_arg0) = m' ((c.tc : Thread Cert.ResReferenceIdeal.nD Cert.ResReferenceIdeal.τ).loc Cert.ResReferenceIdeal.main_arg0)
          ∧ r.2.mem ((c.tc : Thread Cert.ResReferenceIdeal.nD Cert.ResReferenceIdeal.τ).loc Cert.ResReferenceIdeal.main_arg1) = m' ((c.tc : Thread Cert.ResReferenceIdeal.nD Cert.ResReferenceIdeal.τ).loc Cert.ResReferenceIdeal.main_arg1)
          ∧ r.2.mem ((c.tc : Thread Cert.ResReferenceIdeal.nD Cert.ResReferenceIdeal.τ).loc Cert.ResReferenceIdeal.main_arg2) = m' ((c.tc : Thread Cert.ResReferenceIdeal.nD Cert.ResReferenceIdeal.τ).loc Cert.ResReferenceIdeal.main_arg2)
          ∧ r.2.mem ((c.tc : Thread Cert.ResReferenceIdeal.nD Cert.ResReferenceIdeal.τ).loc Cert.ResReferenceIdeal.main_arg3) = m' ((c.tc : Thread Cert.ResReferenceIdeal.nD Cert.ResReferenceIdeal.τ).loc Cert.ResReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)) →
    ∃ (v0 : (c : Dev Cert.ProjKernelIdeal.nD) → Buf (Elt Ideal) ((c.tc : Thread Cert.ProjKernelIdeal.nD Cert.ProjKernelIdeal.τ).loc Cert.ProjKernelIdeal.main_v29)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v29) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v36) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)) →
    ∃ (v0 : (c : Dev Cert.UpKernelIdeal.nD) → Buf (Elt Ideal) ((c.tc : Thread Cert.UpKernelIdeal.nD Cert.UpKernelIdeal.τ).loc Cert.UpKernelIdeal.main_v20_0)) (v1 : (c : Dev Cert.UpKernelIdeal.nD) → Buf (Elt Ideal) ((c.tc : Thread Cert.UpKernelIdeal.nD Cert.UpKernelIdeal.τ).loc Cert.UpKernelIdeal.main_v20_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v20_0) = v0 c
          ∧ r.2.mem ((c.tc : Thread Cert.UpKernelIdeal.nD Cert.UpKernelIdeal.τ).loc Cert.UpKernelIdeal.main_v20_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v59) = v0 c
          ∧ r.2.mem ((c.tc : Thread Cert.UpReferenceIdeal.nD Cert.UpReferenceIdeal.τ).loc Cert.UpReferenceIdeal.main_v57) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_MergeKernel_MergeKernelIdeal : Prop :=
  True

def algebraic_MergeKernelIdeal_MergeReferenceIdeal_pre_finite_scan [hMergeKernelIdeal : Cert.MergeKernelIdeal.Facts] [hMergeReferenceIdeal : Cert.MergeReferenceIdeal.Facts] [hPre_finite_scan : Cert.Pre_finite_scan.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_finite_scan m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)
      ∧ m' ((c.tc : Thread Cert.MergeReferenceIdeal.nD Cert.MergeReferenceIdeal.τ).loc Cert.MergeReferenceIdeal.main_arg12) = m ((c.tc : Thread Cert.MergeKernelIdeal.nD Cert.MergeKernelIdeal.τ).loc Cert.MergeKernelIdeal.main_arg12)
      ∧ m' ((c.tc : Thread Cert.MergeReferenceIdeal.nD Cert.MergeReferenceIdeal.τ).loc Cert.MergeReferenceIdeal.main_arg13) = m ((c.tc : Thread Cert.MergeKernelIdeal.nD Cert.MergeKernelIdeal.τ).loc Cert.MergeKernelIdeal.main_arg13)
      ∧ m' ((c.tc : Thread Cert.MergeReferenceIdeal.nD Cert.MergeReferenceIdeal.τ).loc Cert.MergeReferenceIdeal.main_arg14) = m ((c.tc : Thread Cert.MergeKernelIdeal.nD Cert.MergeKernelIdeal.τ).loc Cert.MergeKernelIdeal.main_arg14)) →
    ∃ (v0 : (c : Dev Cert.MergeKernelIdeal.nD) → Buf (Elt Ideal) ((c.tc : Thread Cert.MergeKernelIdeal.nD Cert.MergeKernelIdeal.τ).loc Cert.MergeKernelIdeal.main_v40)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v40) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
          ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12)
          ∧ r.2.mem ((c.tc : Thread Cert.MergeKernelIdeal.nD Cert.MergeKernelIdeal.τ).loc Cert.MergeKernelIdeal.main_arg13) = m ((c.tc : Thread Cert.MergeKernelIdeal.nD Cert.MergeKernelIdeal.τ).loc Cert.MergeKernelIdeal.main_arg13)
          ∧ r.2.mem ((c.tc : Thread Cert.MergeKernelIdeal.nD Cert.MergeKernelIdeal.τ).loc Cert.MergeKernelIdeal.main_arg14) = m ((c.tc : Thread Cert.MergeKernelIdeal.nD Cert.MergeKernelIdeal.τ).loc Cert.MergeKernelIdeal.main_arg14))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v61) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14))

def Claim : Prop :=
  ∃ (hKernel : Cert.Kernel.Facts) (hKernelIdeal : Cert.KernelIdeal.Facts) (hReferenceIdeal : Cert.ReferenceIdeal.Facts) (hResKernel : Cert.ResKernel.Facts) (hResKernelIdeal : Cert.ResKernelIdeal.Facts) (hResReferenceIdeal : Cert.ResReferenceIdeal.Facts) (hProjKernel : Cert.ProjKernel.Facts) (hProjKernelIdeal : Cert.ProjKernelIdeal.Facts) (hProjReferenceIdeal : Cert.ProjReferenceIdeal.Facts) (hUpKernel : Cert.UpKernel.Facts) (hUpKernelIdeal : Cert.UpKernelIdeal.Facts) (hUpReferenceIdeal : Cert.UpReferenceIdeal.Facts) (hMergeKernel : Cert.MergeKernel.Facts) (hMergeKernelIdeal : Cert.MergeKernelIdeal.Facts) (hMergeReferenceIdeal : Cert.MergeReferenceIdeal.Facts) (hPre_finite_scan : Cert.Pre_finite_scan.Facts),
    quiescent_Kernel (hKernel := hKernel)
    ∧ quiescent_KernelIdeal (hKernelIdeal := hKernelIdeal)
    ∧ quiescent_ReferenceIdeal (hReferenceIdeal := hReferenceIdeal)
    ∧ quiescent_ResKernel (hResKernel := hResKernel)
    ∧ quiescent_ResKernelIdeal (hResKernelIdeal := hResKernelIdeal)
    ∧ quiescent_ResReferenceIdeal (hResReferenceIdeal := hResReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_MergeKernel (hMergeKernel := hMergeKernel)
    ∧ quiescent_MergeKernelIdeal (hMergeKernelIdeal := hMergeKernelIdeal)
    ∧ quiescent_MergeKernelIdeal_pre_finite_scan (hMergeKernelIdeal := hMergeKernelIdeal) (hPre_finite_scan := hPre_finite_scan)
    ∧ quiescent_MergeReferenceIdeal (hMergeReferenceIdeal := hMergeReferenceIdeal)
    ∧ quiescent_MergeReferenceIdeal_pre_finite_scan (hMergeReferenceIdeal := hMergeReferenceIdeal) (hPre_finite_scan := hPre_finite_scan)
    ∧ preserves_Kernel_KernelIdeal
    ∧ algebraic_KernelIdeal_ReferenceIdeal (hKernelIdeal := hKernelIdeal) (hReferenceIdeal := hReferenceIdeal)
    ∧ preserves_ResKernel_ResKernelIdeal
    ∧ algebraic_ResKernelIdeal_ResReferenceIdeal (hResKernelIdeal := hResKernelIdeal) (hResReferenceIdeal := hResReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_UpKernel_UpKernelIdeal
    ∧ algebraic_UpKernelIdeal_UpReferenceIdeal (hUpKernelIdeal := hUpKernelIdeal) (hUpReferenceIdeal := hUpReferenceIdeal)
    ∧ preserves_MergeKernel_MergeKernelIdeal
    ∧ algebraic_MergeKernelIdeal_MergeReferenceIdeal_pre_finite_scan (hMergeKernelIdeal := hMergeKernelIdeal) (hMergeReferenceIdeal := hMergeReferenceIdeal) (hPre_finite_scan := hPre_finite_scan)
-- ==== Pre_finite_scan.lean ====
abbrev S8x2048x256 : Shape := ⟨3, ![8, 2048, 256]⟩
abbrev S8x2048x4x64 : Shape := ⟨4, ![8, 2048, 4, 64]⟩
abbrev S256 : Shape := ⟨1, ![256]⟩
abbrev S8x2048x7560 : Shape := ⟨3, ![8, 2048, 7560]⟩
abbrev S8x2048x1024 : Shape := ⟨3, ![8, 2048, 1024]⟩
abbrev S40x6144 : Shape := ⟨2, ![40, 6144]⟩
abbrev S256x1024 : Shape := ⟨2, ![256, 1024]⟩
abbrev S1024x1024 : Shape := ⟨2, ![1024, 1024]⟩
abbrev S_ : Shape := ⟨0, ![]⟩

class Facts : Prop where
  bcast_S_S8x2048x4x64 : S_.BroadcastsInDim S8x2048x4x64 (![] : Fin 0 → Fin S8x2048x4x64.rank)

variable [Facts]

def fn {F : FTy → Type} [FloatOps F] (main_arg0 : FVec F S8x2048x256 .f32) (main_arg1 : FVec F S8x2048x256 .f32) (main_arg2 : FVec F S8x2048x256 .f32) (main_arg3 : FVec F S8x2048x4x64 .f32) (main_arg4 : FVec F S8x2048x256 .f32) (main_arg5 : FVec F S8x2048x256 .f32) (main_arg6 : FVec F S256 .f32) (main_arg7 : FVec F S8x2048x7560 .f32) (main_arg8 : FVec F S8x2048x1024 .f32) (main_arg9 : FVec F S40x6144 .f32) (main_arg10 : FVec F S256x1024 .f32) (main_arg11 : FVec F S256x1024 .f32) (main_arg12 : FVec F S256x1024 .f32) (main_arg13 : FVec F S256x1024 .f32) (main_arg14 : FVec F S1024x1024 .f32) : IVec S8x2048x4x64 1 :=
  let main_v0 : FVec F S8x2048x4x64 .f32 := Host.absf main_arg3
  let main_cst : FVec F S_ .f32 := constant S_ .f32 0x7F800000#32
  let main_v1 : FVec F S8x2048x4x64 .f32 := broadcastInDim S8x2048x4x64 ![] bcast_S_S8x2048x4x64 main_cst
  let main_v2 : IVec S8x2048x4x64 1 := cmpf .olt main_v0 main_v1
  main_v2
-- ==== Kernel.lean ====
abbrev S32x8x7560 : Shape := ⟨3, ![32, 8, 7560]⟩
abbrev S4 : Shape := ⟨1, ![4]⟩
abbrev S256 : Shape := ⟨1, ![256]⟩
abbrev S32x4x64x64 : Shape := ⟨4, ![32, 4, 64, 64]⟩
abbrev S32x4x64 : Shape := ⟨3, ![32, 4, 64]⟩
abbrev S32x4 : Shape := ⟨2, ![32, 4]⟩
abbrev S32x8x4096 : Shape := ⟨3, ![32, 8, 4096]⟩
abbrev S32x8x896 : Shape := ⟨3, ![32, 8, 896]⟩
abbrev S32x8x8 : Shape := ⟨3, ![32, 8, 8]⟩
abbrev S_ : Shape := ⟨0, ![]⟩
abbrev S32x8x120 : Shape := ⟨3, ![32, 8, 120]⟩
abbrev S32x8x1024 : Shape := ⟨3, ![32, 8, 1024]⟩
abbrev S32x8x768 : Shape := ⟨3, ![32, 8, 768]⟩
abbrev S32x8x7680 : Shape := ⟨3, ![32, 8, 7680]⟩
abbrev S120 : Shape := ⟨1, ![120]⟩
abbrev S128 : Shape := ⟨1, ![128]⟩
abbrev S1x128 : Shape := ⟨2, ![1, 128]⟩
abbrev S1x256 : Shape := ⟨2, ![1, 256]⟩
abbrev S32x4x1x64 : Shape := ⟨4, ![32, 4, 1, 64]⟩
abbrev S32x4x1x1 : Shape := ⟨4, ![32, 4, 1, 1]⟩
abbrev S32x4x1x128 : Shape := ⟨4, ![32, 4, 1, 128]⟩
abbrev S32x8x256 : Shape := ⟨3, ![32, 8, 256]⟩
abbrev S4x8x1024 : Shape := ⟨3, ![4, 8, 1024]⟩
abbrev S4x8x128 : Shape := ⟨3, ![4, 8, 128]⟩
abbrev S4x4x64x64 : Shape := ⟨4, ![4, 4, 64, 64]⟩
abbrev S4x4x1x64 : Shape := ⟨4, ![4, 4, 1, 64]⟩
abbrev S4x4x1x128 : Shape := ⟨4, ![4, 4, 1, 128]⟩
abbrev S4x8x256 : Shape := ⟨3, ![4, 8, 256]⟩
abbrev S8x8 : Shape := ⟨2, ![8, 8]⟩
abbrev S8x1 : Shape := ⟨2, ![8, 1]⟩
abbrev S1x8x128 : Shape := ⟨3, ![1, 8, 128]⟩
abbrev S8x128 : Shape := ⟨2, ![8, 128]⟩
abbrev S1x8x64 : Shape := ⟨3, ![1, 8, 64]⟩
abbrev S8x64 : Shape := ⟨2, ![8, 64]⟩
abbrev S8 : Shape := ⟨1, ![8]⟩
abbrev S1x8 : Shape := ⟨2, ![1, 8]⟩
abbrev S1x1x1x128 : Shape := ⟨4, ![1, 1, 1, 128]⟩
abbrev S1x1 : Shape := ⟨2, ![1, 1]⟩
abbrev S1x1x64x64 : Shape := ⟨4, ![1, 1, 64, 64]⟩
abbrev S64x64 : Shape := ⟨2, ![64, 64]⟩
abbrev S1x1x1x64 : Shape := ⟨4, ![1, 1, 1, 64]⟩
abbrev S1x64 : Shape := ⟨2, ![1, 64]⟩
abbrev S1 : Shape := ⟨1, ![1]⟩
abbrev S64 : Shape := ⟨1, ![64]⟩

abbrev nBuf : Space → Nat
  | .hbm => 28
  | .vmem => 23
  | .smem => 0
  | _ => 0

abbrev bufTy : (tb : Table) → Fin (tcTables nBuf tb) → BufTy
  | .hbm, ⟨0, _⟩ => ⟨S32x8x7560, .f32⟩
  | .hbm, ⟨1, _⟩ => ⟨S4, .f32⟩
  | .hbm, ⟨2, _⟩ => ⟨S4, .f32⟩
  | .hbm, ⟨3, _⟩ => ⟨S256, .f32⟩
  | .hbm, ⟨4, _⟩ => ⟨S32x4x64x64, .f32⟩
  | .hbm, ⟨5, _⟩ => ⟨S32x4x64, .f32⟩
  | .hbm, ⟨6, _⟩ => ⟨S32x4, .f32⟩
  | .hbm, ⟨7, _⟩ => ⟨S32x8x4096, .f32⟩
  | .hbm, ⟨8, _⟩ => ⟨S32x8x896, .f32⟩
  | .hbm, ⟨9, _⟩ => ⟨S32x8x8, .f32⟩
  | .hbm, ⟨10, _⟩ => ⟨S_, .f32⟩
  | .hbm, ⟨11, _⟩ => ⟨S32x8x120, .f32⟩
  | .hbm, ⟨12, _⟩ => ⟨S32x8x1024, .f32⟩
  | .hbm, ⟨13, _⟩ => ⟨S32x8x768, .f32⟩
  | .hbm, ⟨14, _⟩ => ⟨S32x8x768, .f32⟩
  | .hbm, ⟨15, _⟩ => ⟨S32x8x7680, .f32⟩
  | .hbm, ⟨16, _⟩ => ⟨S_, .f32⟩
  | .hbm, ⟨17, _⟩ => ⟨S120, .f32⟩
  | .hbm, ⟨18, _⟩ => ⟨S128, .f32⟩
  | .hbm, ⟨19, _⟩ => ⟨S1x128, .f32⟩
  | .hbm, ⟨20, _⟩ => ⟨S1x256, .f32⟩
  | .hbm, ⟨21, _⟩ => ⟨S32x4x1x64, .f32⟩
  | .hbm, ⟨22, _⟩ => ⟨S32x4x1x1, .f32⟩
  | .hbm, ⟨23, _⟩ => ⟨S32x4x1x128, .f32⟩
  | .hbm, ⟨24, _⟩ => ⟨S32x8x256, .f32⟩
  | .hbm, ⟨25, _⟩ => ⟨S32x4x64x64, .f32⟩
  | .hbm, ⟨26, _⟩ => ⟨S32x4x1x64, .f32⟩
  | .hbm, ⟨27, _⟩ => ⟨S32x4x1x128, .f32⟩
  | .local _ .vmem, ⟨0, _⟩ => ⟨S4x8x1024, .f32⟩
  | .local _ .vmem, ⟨1, _⟩ => ⟨S4x8x1024, .f32⟩
  | .local _ .vmem, ⟨2, _⟩ => ⟨S4x8x128, .f32⟩
  | .local _ .vmem, ⟨3, _⟩ => ⟨S4x8x128, .f32⟩
  | .local _ .vmem, ⟨4, _⟩ => ⟨S1x128, .f32⟩
  | .local _ .vmem, ⟨5, _⟩ => ⟨S1x256, .f32⟩
  | .local _ .vmem, ⟨6, _⟩ => ⟨S4x4x64x64, .f32⟩
  | .local _ .vmem, ⟨7, _⟩ => ⟨S4x4x64x64, .f32⟩
  | .local _ .vmem, ⟨8, _⟩ => ⟨S4x4x1x64, .f32⟩
  | .local _ .vmem, ⟨9, _⟩ => ⟨S4x4x1x64, .f32⟩
  | .local _ .vmem, ⟨10, _⟩ => ⟨S4x4x1x128, .f32⟩
  | .local _ .vmem, ⟨11, _⟩ => ⟨S4x4x1x128, .f32⟩
  | .local _ .vmem, ⟨12, _⟩ => ⟨S4x8x256, .f32⟩
  | .local _ .vmem, ⟨13, _⟩ => ⟨S4x8x256, .f32⟩
  | .local _ .vmem, ⟨14, _⟩ => ⟨S4x4x64x64, .f32⟩
  | .local _ .vmem, ⟨15, _⟩ => ⟨S4x4x64x64, .f32⟩
  | .local _ .vmem, ⟨16, _⟩ => ⟨S4x4x1x64, .f32⟩
  | .local _ .vmem, ⟨17, _⟩ => ⟨S4x4x1x64, .f32⟩
  | .local _ .vmem, ⟨18, _⟩ => ⟨S4x4x1x128, .f32⟩
  | .local _ .vmem, ⟨19, _⟩ => ⟨S4x4x1x128, .f32⟩
  | .local _ .vmem, ⟨20, _⟩ => ⟨S4x4x64x64, .f32⟩
  | .local _ .vmem, ⟨21, _⟩ => ⟨S4x4x1x64, .f32⟩
  | .local _ .vmem, ⟨22, _⟩ => ⟨S4x4x1x128, .f32⟩
  | _, _ => ⟨S32x8x7560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_1132 : BitVec 32 := 0#32
  let v2552 : BitVec 1 := Scalar.cmpi .eq arg1 c0_i32_1132
  let v2553 : BitVec 32 := Scalar.extui v2552
  let c0_i32_1133 : BitVec 32 := 0#32
  let v2554 : BitVec 1 := Scalar.cmpi .ne v2553 c0_i32_1133
  v2554

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c39_i32 : BitVec 32 := 39#32
  let c0_i32 : BitVec 32 := 0#32
  ![arg0.toNat, arg1.toNat, c39_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x4x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x4x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x4x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S32x8x7560 : Shape := ⟨3, ![32, 8, 7560]⟩
abbrev S4 : Shape := ⟨1, ![4]⟩
abbrev S256 : Shape := ⟨1, ![256]⟩
abbrev S32x4x64x64 : Shape := ⟨4, ![32, 4, 64, 64]⟩
abbrev S32x4x64 : Shape := ⟨3, ![32, 4, 64]⟩
abbrev S32x4 : Shape := ⟨2, ![32, 4]⟩
abbrev S32x8x256 : Shape := ⟨3, ![32, 8, 256]⟩
abbrev S32x8x4x64 : Shape := ⟨4, ![32, 8, 4, 64]⟩
abbrev S32x8x4 : Shape := ⟨3, ![32, 8, 4]⟩
abbrev S1x1x4 : Shape := ⟨3, ![1, 1, 4]⟩
abbrev S32x4x8x64 : Shape := ⟨4, ![32, 4, 8, 64]⟩
abbrev S_ : Shape := ⟨0, ![]⟩
abbrev S32x4x8 : Shape := ⟨3, ![32, 4, 8]⟩
abbrev S8x8 : Shape := ⟨2, ![8, 8]⟩
abbrev S32x4x8x1 : Shape := ⟨4, ![32, 4, 8, 1]⟩
abbrev S32x4x1x8 : Shape := ⟨4, ![32, 4, 1, 8]⟩
abbrev S32x4x8x8 : Shape := ⟨4, ![32, 4, 8, 8]⟩
abbrev S32x4x1 : Shape := ⟨3, ![32, 4, 1]⟩
abbrev S32x4x1x1 : Shape := ⟨4, ![32, 4, 1, 1]⟩
abbrev S32x8x4x1 : Shape := ⟨4, ![32, 8, 4, 1]⟩
abbrev S1x1x256 : Shape := ⟨3, ![1, 1, 256]⟩
abbrev S32x4x1x64 : Shape := ⟨4, ![32, 4, 1, 64]⟩
abbrev S32x4x1x128 : Shape := ⟨4, ![32, 4, 1, 128]⟩

abbrev nBuf : Space → Nat
  | .hbm => 169
  | .vmem => 0
  | .smem => 0
  | _ => 0

abbrev hbmTy0_0 (i : Nat) : BufTy := match i % 128 with
  | 0 => ⟨S32x8x7560, .f32⟩
  | 1 => ⟨S4, .f32⟩
  | 2 => ⟨S4, .f32⟩
  | 3 => ⟨S256, .f32⟩
  | 4 => ⟨S32x4x64x64, .f32⟩
  | 5 => ⟨S32x4x64, .f32⟩
  | 6 => ⟨S32x4, .f32⟩
  | 7 => ⟨S32x8x256, .f32⟩
  | 8 => ⟨S32x8x4x64, .f32⟩
  | 9 => ⟨S32x8x256, .f32⟩
  | 10 => ⟨S32x8x4x64, .f32⟩
  | 11 => ⟨S32x8x256, .f32⟩
  | 12 => ⟨S32x8x4x64, .f32⟩
  | 13 => ⟨S32x8x256, .f32⟩
  | 14 => ⟨S32x8x4, .f32⟩
  | 15 => ⟨S1x1x4, .f32⟩
  | 16 => ⟨S32x8x4, .f32⟩
  | 17 => ⟨S32x8x4, .f32⟩
  | 18 => ⟨S32x8x4, .f32⟩
  | 19 => ⟨S1x1x4, .f32⟩
  | 20 => ⟨S32x8x4, .f32⟩
  | 21 => ⟨S32x8x4, .f32⟩
  | 22 => ⟨S32x4x8x64, .f32⟩
  | 23 => ⟨S32x4x8x64, .f32⟩
  | 24 => ⟨S_, .f32⟩
  | 25 => ⟨S32x4x8x64, .f32⟩
  | 26 => ⟨S32x4x8x64, .f32⟩
  | 27 => ⟨S32x4x8x64, .f32⟩
  | 28 => ⟨S32x4x8, .f32⟩
  | 29 => ⟨S32x8x4, .f32⟩
  | 30 => ⟨S_, .f32⟩
  | 31 => ⟨S32x8x4, .f32⟩
  | 32 => ⟨S32x8x4, .f32⟩
  | 33 => ⟨S32x8x4, .f32⟩
  | 34 => ⟨S32x8x4, .f32⟩
  | 35 => ⟨S32x8x4, .i1⟩
  | 36 => ⟨S32x8x4, .f32⟩
  | 37 => ⟨S32x8x4, .f32⟩
  | 38 => ⟨S32x8x4, .f32⟩
  | 39 => ⟨S32x8x4, .f32⟩
  | 40 => ⟨S32x8x4, .f32⟩
  | 41 => ⟨S32x8x4, .f32⟩
  | 42 => ⟨S32x8x4, .f32⟩
  | 43 => ⟨S32x8x4, .f32⟩
  | 44 => ⟨S32x8x4, .f32⟩
  | 45 => ⟨S32x4x8, .f32⟩
  | 46 => ⟨S_, .i1⟩
  | 47 => ⟨S8x8, .i1⟩
  | 48 => ⟨S8x8, .i32⟩
  | 49 => ⟨S_, .i32⟩
  | 50 => ⟨S8x8, .i32⟩
  | 51 => ⟨S8x8, .i32⟩
  | 52 => ⟨S8x8, .i32⟩
  | 53 => ⟨S8x8, .i1⟩
  | 54 => ⟨S_, .i1⟩
  | 55 => ⟨S8x8, .i1⟩
  | 56 => ⟨S8x8, .i1⟩
  | 57 => ⟨S_, .f32⟩
  | 58 => ⟨S_, .f32⟩
  | 59 => ⟨S32x4x8, .f32⟩
  | 60 => ⟨S32x4x8x1, .f32⟩
  | 61 => ⟨S32x4x1x8, .f32⟩
  | 62 => ⟨S32x4x8x8, .f32⟩
  | 63 => ⟨S32x4x8x8, .f32⟩
  | 64 => ⟨S32x4x8x8, .f32⟩
  | 65 => ⟨S32x4x1x8, .f32⟩
  | 66 => ⟨S32x4x8x8, .f32⟩
  | 67 => ⟨S32x4x8x8, .f32⟩
  | 68 => ⟨S_, .f32⟩
  | 69 => ⟨S_, .f32⟩
  | 70 => ⟨S32x4x8x8, .i1⟩
  | 71 => ⟨S32x4x8x8, .f32⟩
  | 72 => ⟨S32x4x8x8, .f32⟩
  | 73 => ⟨S32x4x1, .f32⟩
  | 74 => ⟨S32x4x8, .f32⟩
  | 75 => ⟨S32x4x8, .f32⟩
  | 76 => ⟨S_, .f32⟩
  | 77 => ⟨S32x4x8, .f32⟩
  | 78 => ⟨S32x4x8, .f32⟩
  | 79 => ⟨S32x4x8x1, .f32⟩
  | 80 => ⟨S32x4x8x8, .f32⟩
  | 81 => ⟨S32x4x8x8, .f32⟩
  | 82 => ⟨S32x4x8x8, .f32⟩
  | 83 => ⟨S32x4x8x8, .f32⟩
  | 84 => ⟨S32x4x8x8, .f32⟩
  | 85 => ⟨S32x4x8, .f32⟩
  | 86 => ⟨S32x4x8, .f32⟩
  | 87 => ⟨S32x4x8x64, .f32⟩
  | 88 => ⟨S32x4x8x1, .f32⟩
  | 89 => ⟨S32x4x8x64, .f32⟩
  | 90 => ⟨S32x4x8x64, .f32⟩
  | 91 => ⟨S32x4x8x64, .f32⟩
  | 92 => ⟨S32x4x8x64, .f32⟩
  | 93 => ⟨S_, .f32⟩
  | 94 => ⟨S32x4x8, .f32⟩
  | 95 => ⟨S32x4x8, .f32⟩
  | 96 => ⟨S32x4x8, .f32⟩
  | 97 => ⟨S32x4x8, .f32⟩
  | 98 => ⟨S32x4x8, .f32⟩
  | 99 => ⟨S32x4x8, .f32⟩
  | 100 => ⟨S32x4x8, .f32⟩
  | 101 => ⟨S32x4x8, .f32⟩
  | 102 => ⟨S32x4x8x1, .f32⟩
  | 103 => ⟨S32x4x8x64, .f32⟩
  | 104 => ⟨S32x4x8x64, .f32⟩
  | 105 => ⟨S32x4x1, .f32⟩
  | 106 => ⟨S32x4, .f32⟩
  | 107 => ⟨S32x4x1, .f32⟩
  | 108 => ⟨S32x4x8, .f32⟩
  | 109 => ⟨S32x4x8, .f32⟩
  | 110 => ⟨S32x4x8, .f32⟩
  | 111 => ⟨S32x4, .f32⟩
  | 112 => ⟨S_, .f32⟩
  | 113 => ⟨S32x4, .f32⟩
  | 114 => ⟨S32x4, .f32⟩
  | 115 => ⟨S32x4x1, .f32⟩
  | 116 => ⟨S32x4x8, .f32⟩
  | 117 => ⟨S32x4x8, .f32⟩
  | 118 => ⟨S32x4x8, .f32⟩
  | 119 => ⟨S32x4, .f32⟩
  | 120 => ⟨S32x4, .f32⟩
  | 121 => ⟨S32x4, .f32⟩
  | 122 => ⟨S32x4x1x1, .f32⟩
  | 123 => ⟨S32x4x64x64, .f32⟩
  | 124 => ⟨S32x4x64x64, .f32⟩
  | 125 => ⟨S32x4x8x1, .f32⟩
  | 126 => ⟨S32x4x8x64, .f32⟩
  | 127 => ⟨S32x4x8x64, .f32⟩
  | _ => ⟨S32x8x7560, .f32⟩

abbrev hbmTy0_1 (i : Nat) : BufTy := match i % 128 with
  | 0 => ⟨S32x4x64x64, .f32⟩
  | 1 => ⟨S32x4x64x64, .f32⟩
  | 2 => ⟨S32x4x1, .f32⟩
  | 3 => ⟨S32x4x64, .f32⟩
  | 4 => ⟨S32x4x64, .f32⟩
  | 5 => ⟨S32x4x8x1, .f32⟩
  | 6 => ⟨S32x4x8x64, .f32⟩
  | 7 => ⟨S32x4x8x64, .f32⟩
  | 8 => ⟨S_, .f32⟩
  | 9 => ⟨S32x4x64, .f32⟩
  | 10 => ⟨S32x4x64, .f32⟩
  | 11 => ⟨S32x8x4x64, .f32⟩
  | 12 => ⟨S32x8x4x64, .f32⟩
  | 13 => ⟨S_, .f32⟩
  | 14 => ⟨S32x8x4, .f32⟩
  | 15 => ⟨S32x8x4x1, .f32⟩
  | 16 => ⟨S_, .f32⟩
  | 17 => ⟨S32x8x4x1, .f32⟩
  | 18 => ⟨S32x8x4x1, .f32⟩
  | 19 => ⟨S_, .f32⟩
  | 20 => ⟨S32x8x4x1, .f32⟩
  | 21 => ⟨S32x8x4x1, .f32⟩
  | 22 => ⟨S32x8x4x1, .f32⟩
  | 23 => ⟨S32x8x4x64, .f32⟩
  | 24 => ⟨S32x8x4x64, .f32⟩
  | 25 => ⟨S32x8x256, .f32⟩
  | 26 => ⟨S1x1x256, .f32⟩
  | 27 => ⟨S32x8x256, .f32⟩
  | 28 => ⟨S32x8x256, .f32⟩
  | 29 => ⟨S32x8x256, .f32⟩
  | 30 => ⟨S32x8x256, .f32⟩
  | 31 => ⟨S_, .f32⟩
  | 32 => ⟨S32x8x256, .f32⟩
  | 33 => ⟨S32x8x256, .f32⟩
  | 34 => ⟨S_, .f32⟩
  | 35 => ⟨S32x8x256, .f32⟩
  | 36 => ⟨S32x8x256, .f32⟩
  | 37 => ⟨S32x8x256, .f32⟩
  | 38 => ⟨S32x4x1x64, .f32⟩
  | 39 => ⟨S32x4x1x1, .f32⟩
  | 40 => ⟨S32x4x1x128, .f32⟩
  | _ => ⟨S32x8x7560, .f32⟩

abbrev hbmTy (i : Nat) : BufTy := match i / 128 with
  | 0 => hbmTy0_0 i
  | 1 => hbmTy0_1 i
  | _ => ⟨S32x8x7560, .f32⟩

abbrev bufTy : (tb : Table) → Fin (tcTables nBuf tb) → BufTy
  | .hbm, ⟨i, _⟩ => hbmTy i
  | _, _ => ⟨S32x8x7560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v24 : Ref sig .tc := ⟨.hbm, 56, rfl⟩
abbrev main_call2_call0_cst : Ref sig .tc := ⟨.hbm, 57, rfl⟩
abbrev main_call2_call0_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_0 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_1 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_2 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_3 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_4 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_5 : Ref sig .tc := ⟨.hbm, 141, rfl⟩
abbrev main_v99 : Ref sig .tc := ⟨.hbm, 142, rfl⟩
abbrev main_v100 : Ref sig .tc := ⟨.hbm, 143, rfl⟩
abbrev main_cst_6 : Ref sig .tc := ⟨.hbm, 144, rfl⟩
abbrev main_v101 : Ref sig .tc := ⟨.hbm, 145, rfl⟩
abbrev main_v102 : Ref sig .tc := ⟨.hbm, 146, rfl⟩
abbrev main_cst_7 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_8 : Ref sig .tc := ⟨.hbm, 159, rfl⟩
abbrev main_v114 : Ref sig .tc := ⟨.hbm, 160, rfl⟩
abbrev main_v115 : Ref sig .tc := ⟨.hbm, 161, rfl⟩
abbrev main_cst_9 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩

abbrev nD : Nat := 1
abbrev τ : Topo := Topo.v7x

variable {F : FTy → Type} [FloatOps F]
-- ==== ResKernel.lean ====
abbrev S16384x2816 : Shape := ⟨2, ![16384, 2816]⟩
abbrev S2816x1024 : Shape := ⟨2, ![2816, 1024]⟩
abbrev S16384x1024 : Shape := ⟨2, ![16384, 1024]⟩
abbrev S40x6144 : Shape := ⟨2, ![40, 6144]⟩
abbrev S40x1024 : Shape := ⟨2, ![40, 1024]⟩
abbrev S8x1024 : Shape := ⟨2, ![8, 1024]⟩
abbrev S8x1x1024 : Shape := ⟨3, ![8, 1, 1024]⟩
abbrev S512x2816 : Shape := ⟨2, ![512, 2816]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 24
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S40x6144, .f32⟩
  | .hbm, ⟨4, _⟩ => ⟨S2816x1024, .bf16⟩
  | .hbm, ⟨5, _⟩ => ⟨S40x1024, .f32⟩
  | .hbm, ⟨6, _⟩ => ⟨S8x1024, .f32⟩
  | .hbm, ⟨7, _⟩ => ⟨S8x1x1024, .f32⟩
  | .hbm, ⟨8, _⟩ => ⟨S40x1024, .f32⟩
  | .hbm, ⟨9, _⟩ => ⟨S8x1024, .f32⟩
  | .hbm, ⟨10, _⟩ => ⟨S8x1x1024, .f32⟩
  | .hbm, ⟨11, _⟩ => ⟨S40x1024, .f32⟩
  | .hbm, ⟨12, _⟩ => ⟨S8x1024, .f32⟩
  | .hbm, ⟨13, _⟩ => ⟨S8x1x1024, .f32⟩
  | .hbm, ⟨14, _⟩ => ⟨S40x1024, .f32⟩
  | .hbm, ⟨15, _⟩ => ⟨S8x1024, .f32⟩
  | .hbm, ⟨16, _⟩ => ⟨S8x1x1024, .f32⟩
  | .hbm, ⟨17, _⟩ => ⟨S40x1024, .f32⟩
  | .hbm, ⟨18, _⟩ => ⟨S8x1024, .f32⟩
  | .hbm, ⟨19, _⟩ => ⟨S8x1x1024, .f32⟩
  | .hbm, ⟨20, _⟩ => ⟨S40x1024, .f32⟩
  | .hbm, ⟨21, _⟩ => ⟨S8x1024, .f32⟩
  | .hbm, ⟨22, _⟩ => ⟨S8x1x1024, .f32⟩
  | .hbm, ⟨23, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResReferenceIdeal.lean ====
abbrev S16384x2816 : Shape := ⟨2, ![16384, 2816]⟩
abbrev S2816x1024 : Shape := ⟨2, ![2816, 1024]⟩
abbrev S16384x1024 : Shape := ⟨2, ![16384, 1024]⟩
abbrev S40x6144 : Shape := ⟨2, ![40, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x2048x1024 : Shape := ⟨3, ![8, 2048, 1024]⟩
abbrev S8x2048x2816 : Shape := ⟨3, ![8, 2048, 2816]⟩

abbrev nBuf : Space → Nat
  | .hbm => 20
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S40x6144, .f32⟩
  | .hbm, ⟨4, _⟩ => ⟨S8x6144, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S16384x2816, .f32⟩
  | .hbm, ⟨14, _⟩ => ⟨S8x2048x2816, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== ProjKernel.lean ====
abbrev S8x2048x1024 : Shape := ⟨3, ![8, 2048, 1024]⟩
abbrev S1024 : Shape := ⟨1, ![1024]⟩
abbrev S40x6144 : Shape := ⟨2, ![40, 6144]⟩
abbrev S1024x7560 : Shape := ⟨2, ![1024, 7560]⟩
abbrev S1024x4096 : Shape := ⟨2, ![1024, 4096]⟩
abbrev S1024x896 : Shape := ⟨2, ![1024, 896]⟩
abbrev S1024x8 : Shape := ⟨2, ![1024, 8]⟩
abbrev S_ : Shape := ⟨0, ![]⟩
abbrev S1024x120 : Shape := ⟨2, ![1024, 120]⟩
abbrev S1024x1024 : Shape := ⟨2, ![1024, 1024]⟩
abbrev S1024x768 : Shape := ⟨2, ![1024, 768]⟩
abbrev S1024x7680 : Shape := ⟨2, ![1024, 7680]⟩
abbrev S40x1024 : Shape := ⟨2, ![40, 1024]⟩
abbrev S8x1024 : Shape := ⟨2, ![8, 1024]⟩
abbrev S8x1x1024 : Shape := ⟨3, ![8, 1, 1024]⟩
abbrev S16384x1024 : Shape := ⟨2, ![16384, 1024]⟩
abbrev S1x1024 : Shape := ⟨2, ![1, 1024]⟩
abbrev S16384x7680 : Shape := ⟨2, ![16384, 7680]⟩
abbrev S1x1x1024 : Shape := ⟨3, ![1, 1, 1024]⟩
abbrev S1024x2560 : Shape := ⟨2, ![1024, 2560]⟩
abbrev S1024x1 : Shape := ⟨2, ![1024, 1]⟩

abbrev nBuf : Space → Nat
  | .hbm => 35
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S40x6144, .f32⟩
  | .hbm, ⟨3, _⟩ => ⟨S1024x7560, .f32⟩
  | .hbm, ⟨4, _⟩ => ⟨S1024x7560, .bf16⟩
  | .hbm, ⟨5, _⟩ => ⟨S1024x4096, .bf16⟩
  | .hbm, ⟨6, _⟩ => ⟨S1024x896, .bf16⟩
  | .hbm, ⟨7, _⟩ => ⟨S1024x8, .bf16⟩
  | .hbm, ⟨8, _⟩ => ⟨S_, .bf16⟩
  | .hbm, ⟨9, _⟩ => ⟨S1024x120, .bf16⟩
  | .hbm, ⟨10, _⟩ => ⟨S1024x1024, .bf16⟩
  | .hbm, ⟨11, _⟩ => ⟨S1024x768, .bf16⟩
  | .hbm, ⟨12, _⟩ => ⟨S1024x768, .bf16⟩
  | .hbm, ⟨13, _⟩ => ⟨S1024x7680, .bf16⟩
  | .hbm, ⟨14, _⟩ => ⟨S40x1024, .f32⟩
  | .hbm, ⟨15, _⟩ => ⟨S8x1024, .f32⟩
  | .hbm, ⟨16, _⟩ => ⟨S8x1x1024, .f32⟩
  | .hbm, ⟨17, _⟩ => ⟨S40x1024, .f32⟩
  | .hbm, ⟨18, _⟩ => ⟨S8x1024, .f32⟩
  | .hbm, ⟨19, _⟩ => ⟨S8x1x1024, .f32⟩
  | .hbm, ⟨20, _⟩ => ⟨S40x1024, .f32⟩
  | .hbm, ⟨21, _⟩ => ⟨S8x1024, .f32⟩
  | .hbm, ⟨22, _⟩ => ⟨S8x1x1024, .f32⟩
  | .hbm, ⟨23, _⟩ => ⟨S40x1024, .f32⟩
  | .hbm, ⟨24, _⟩ => ⟨S8x1024, .f32⟩
  | .hbm, ⟨25, _⟩ => ⟨S8x1x1024, .f32⟩
  | .hbm, ⟨26, _⟩ => ⟨S40x1024, .f32⟩
  | .hbm, ⟨27, _⟩ => ⟨S8x1024, .f32⟩
  | .hbm, ⟨28, _⟩ => ⟨S8x1x1024, .f32⟩
  | .hbm, ⟨29, _⟩ => ⟨S40x1024, .f32⟩
  | .hbm, ⟨30, _⟩ => ⟨S8x1024, .f32⟩
  | .hbm, ⟨31, _⟩ => ⟨S8x1x1024, .f32⟩
  | .hbm, ⟨32, _⟩ => ⟨S16384x1024, .f32⟩
  | .hbm, ⟨33, _⟩ => ⟨S1x1024, .f32⟩
  | .hbm, ⟨34, _⟩ => ⟨S16384x7680, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S1024x2560, .bf16⟩
  | .local _ .vmem, ⟨9, _⟩ => ⟨S1024x2560, .f32⟩
  | .local _ .vmem, ⟨10, _⟩ => ⟨S1024x2560, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjReferenceIdeal.lean ====
abbrev S8x2048x1024 : Shape := ⟨3, ![8, 2048, 1024]⟩
abbrev S1024 : Shape := ⟨1, ![1024]⟩
abbrev S40x6144 : Shape := ⟨2, ![40, 6144]⟩
abbrev S1024x7560 : Shape := ⟨2, ![1024, 7560]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7560 : Shape := ⟨3, ![8, 2048, 7560]⟩
abbrev S8x2048x4096 : Shape := ⟨3, ![8, 2048, 4096]⟩
abbrev S8x2048x896 : Shape := ⟨3, ![8, 2048, 896]⟩
abbrev S8x2048x8 : Shape := ⟨3, ![8, 2048, 8]⟩
abbrev S8x2048x120 : Shape := ⟨3, ![8, 2048, 120]⟩
abbrev S8x2048x768 : Shape := ⟨3, ![8, 2048, 768]⟩
abbrev S8x2048x7680 : Shape := ⟨3, ![8, 2048, 7680]⟩
abbrev S16384x7680 : Shape := ⟨2, ![16384, 7680]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S40x6144, .f32⟩
  | .hbm, ⟨3, _⟩ => ⟨S1024x7560, .f32⟩
  | .hbm, ⟨4, _⟩ => ⟨S8x6144, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x7560, .f32⟩
  | .hbm, ⟨36, _⟩ => ⟨S8x2048x4096, .f32⟩
  | .hbm, ⟨37, _⟩ => ⟨S8x2048x896, .f32⟩
  | .hbm, ⟨38, _⟩ => ⟨S8x2048x8, .f32⟩
  | .hbm, ⟨39, _⟩ => ⟨S_, .f32⟩
  | .hbm, ⟨40, _⟩ => ⟨S8x2048x120, .f32⟩
  | .hbm, ⟨41, _⟩ => ⟨S8x2048x1024, .f32⟩
  | .hbm, ⟨42, _⟩ => ⟨S8x2048x768, .f32⟩
  | .hbm, ⟨43, _⟩ => ⟨S8x2048x768, .f32⟩
  | .hbm, ⟨44, _⟩ => ⟨S8x2048x7680, .f32⟩
  | .hbm, ⟨45, _⟩ => ⟨S16384x7680, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== UpKernel.lean ====
abbrev S16384x1024 : Shape := ⟨2, ![16384, 1024]⟩
abbrev S1024 : Shape := ⟨1, ![1024]⟩
abbrev S40x6144 : Shape := ⟨2, ![40, 6144]⟩
abbrev S1024x5632 : Shape := ⟨2, ![1024, 5632]⟩
abbrev S3x2816 : Shape := ⟨2, ![3, 2816]⟩
abbrev S8x2x2816 : Shape := ⟨3, ![8, 2, 2816]⟩
abbrev S40x1024 : Shape := ⟨2, ![40, 1024]⟩
abbrev S8x1024 : Shape := ⟨2, ![8, 1024]⟩
abbrev S8x1x1024 : Shape := ⟨3, ![8, 1, 1024]⟩
abbrev S1x1024 : Shape := ⟨2, ![1, 1024]⟩
abbrev S16384x2816 : Shape := ⟨2, ![16384, 2816]⟩
abbrev S32x2x2816 : Shape := ⟨3, ![32, 2, 2816]⟩
abbrev S512x1024 : Shape := ⟨2, ![512, 1024]⟩
abbrev S16x1024 : Shape := ⟨2, ![16, 1024]⟩
abbrev S1x1x1024 : Shape := ⟨3, ![1, 1, 1024]⟩
abbrev S1024x1408 : Shape := ⟨2, ![1024, 1408]⟩
abbrev S3x1408 : Shape := ⟨2, ![3, 1408]⟩
abbrev S1x2x1408 : Shape := ⟨3, ![1, 2, 1408]⟩
abbrev S512x1408 : Shape := ⟨2, ![512, 1408]⟩
abbrev S16x1408 : Shape := ⟨2, ![16, 1408]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1x1x1408 : Shape := ⟨3, ![1, 1, 1408]⟩
abbrev S1x1408 : Shape := ⟨2, ![1, 1408]⟩
abbrev S2x1408 : Shape := ⟨2, ![2, 1408]⟩

abbrev nBuf : Space → Nat
  | .hbm => 28
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S40x6144, .f32⟩
  | .hbm, ⟨3, _⟩ => ⟨S1024x5632, .f32⟩
  | .hbm, ⟨4, _⟩ => ⟨S3x2816, .f32⟩
  | .hbm, ⟨5, _⟩ => ⟨S8x2x2816, .f32⟩
  | .hbm, ⟨6, _⟩ => ⟨S40x1024, .f32⟩
  | .hbm, ⟨7, _⟩ => ⟨S8x1024, .f32⟩
  | .hbm, ⟨8, _⟩ => ⟨S8x1x1024, .f32⟩
  | .hbm, ⟨9, _⟩ => ⟨S40x1024, .f32⟩
  | .hbm, ⟨10, _⟩ => ⟨S8x1024, .f32⟩
  | .hbm, ⟨11, _⟩ => ⟨S8x1x1024, .f32⟩
  | .hbm, ⟨12, _⟩ => ⟨S40x1024, .f32⟩
  | .hbm, ⟨13, _⟩ => ⟨S8x1024, .f32⟩
  | .hbm, ⟨14, _⟩ => ⟨S8x1x1024, .f32⟩
  | .hbm, ⟨15, _⟩ => ⟨S40x1024, .f32⟩
  | .hbm, ⟨16, _⟩ => ⟨S8x1024, .f32⟩
  | .hbm, ⟨17, _⟩ => ⟨S8x1x1024, .f32⟩
  | .hbm, ⟨18, _⟩ => ⟨S40x1024, .f32⟩
  | .hbm, ⟨19, _⟩ => ⟨S8x1024, .f32⟩
  | .hbm, ⟨20, _⟩ => ⟨S8x1x1024, .f32⟩
  | .hbm, ⟨21, _⟩ => ⟨S40x1024, .f32⟩
  | .hbm, ⟨22, _⟩ => ⟨S8x1024, .f32⟩
  | .hbm, ⟨23, _⟩ => ⟨S8x1x1024, .f32⟩
  | .hbm, ⟨24, _⟩ => ⟨S1x1024, .f32⟩
  | .hbm, ⟨25, _⟩ => ⟨S1024x5632, .bf16⟩
  | .hbm, ⟨26, _⟩ => ⟨S16384x2816, .bf16⟩
  | .hbm, ⟨27, _⟩ => ⟨S32x2x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S3x1408, .f32⟩
  | .local _ .vmem, ⟨14, _⟩ => ⟨S3x1408, .f32⟩
  | .local _ .vmem, ⟨15, _⟩ => ⟨S1x2x1408, .f32⟩
  | .local _ .vmem, ⟨16, _⟩ => ⟨S1x2x1408, .f32⟩
  | .local _ .vmem, ⟨17, _⟩ => ⟨S512x1408, .bf16⟩
  | .local _ .vmem, ⟨18, _⟩ => ⟨S512x1408, .bf16⟩
  | .local _ .vmem, ⟨19, _⟩ => ⟨S1x2x1408, .f32⟩
  | .local _ .vmem, ⟨20, _⟩ => ⟨S1x2x1408, .f32⟩
  | .local _ .vmem, ⟨21, _⟩ => ⟨S512x1024, .bf16⟩
  | .local _ .vmem, ⟨22, _⟩ => ⟨S16x1024, .bf16⟩
  | .local _ .vmem, ⟨23, _⟩ => ⟨S16x1408, .f32⟩
  | .local _ .vmem, ⟨24, _⟩ => ⟨S16x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== UpReferenceIdeal.lean ====
abbrev S16384x1024 : Shape := ⟨2, ![16384, 1024]⟩
abbrev S1024 : Shape := ⟨1, ![1024]⟩
abbrev S40x6144 : Shape := ⟨2, ![40, 6144]⟩
abbrev S1024x5632 : Shape := ⟨2, ![1024, 5632]⟩
abbrev S3x2816 : Shape := ⟨2, ![3, 2816]⟩
abbrev S8x2x2816 : Shape := ⟨3, ![8, 2, 2816]⟩
abbrev S8x2048x1024 : Shape := ⟨3, ![8, 2048, 1024]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x2050x2816 : Shape := ⟨3, ![8, 2050, 2816]⟩
abbrev S1x2816 : Shape := ⟨2, ![1, 2816]⟩
abbrev S2816 : Shape := ⟨1, ![2816]⟩
abbrev S1x1x2816 : Shape := ⟨3, ![1, 1, 2816]⟩
abbrev S32x512x2816 : Shape := ⟨3, ![32, 512, 2816]⟩
abbrev S32x2x2816 : Shape := ⟨3, ![32, 2, 2816]⟩
abbrev S16384x2816 : Shape := ⟨2, ![16384, 2816]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S40x6144, .f32⟩
  | .hbm, ⟨3, _⟩ => ⟨S1024x5632, .f32⟩
  | .hbm, ⟨4, _⟩ => ⟨S3x2816, .f32⟩
  | .hbm, ⟨5, _⟩ => ⟨S8x2x2816, .f32⟩
  | .hbm, ⟨6, _⟩ => ⟨S8x2048x1024, .f32⟩
  | .hbm, ⟨7, _⟩ => ⟨S8x6144, .f32⟩
  | .hbm, ⟨8, _⟩ => ⟨S8x1x6144, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x5632, .f32⟩
  | .hbm, ⟨39, _⟩ => ⟨S8x2048x2816, .f32⟩
  | .hbm, ⟨40, _⟩ => ⟨S8x2048x2816, .f32⟩
  | .hbm, ⟨41, _⟩ => ⟨S8x2050x2816, .f32⟩
  | .hbm, ⟨42, _⟩ => ⟨S1x2816, .f32⟩
  | .hbm, ⟨43, _⟩ => ⟨S2816, .f32⟩
  | .hbm, ⟨44, _⟩ => ⟨S8x2048x2816, .f32⟩
  | .hbm, ⟨45, _⟩ => ⟨S1x1x2816, .f32⟩
  | .hbm, ⟨46, _⟩ => ⟨S8x2048x2816, .f32⟩
  | .hbm, ⟨47, _⟩ => ⟨S8x2048x2816, .f32⟩
  | .hbm, ⟨48, _⟩ => ⟨S_, .f32⟩
  | .hbm, ⟨49, _⟩ => ⟨S8x2048x2816, .f32⟩
  | .hbm, ⟨50, _⟩ => ⟨S8x2048x2816, .f32⟩
  | .hbm, ⟨51, _⟩ => ⟨S1x2816, .f32⟩
  | .hbm, ⟨52, _⟩ => ⟨S2816, .f32⟩
  | .hbm, ⟨53, _⟩ => ⟨S8x2048x2816, .f32⟩
  | .hbm, ⟨54, _⟩ => ⟨S1x1x2816, .f32⟩
  | .hbm, ⟨55, _⟩ => ⟨S8x2048x2816, .f32⟩
  | .hbm, ⟨56, _⟩ => ⟨S8x2048x2816, .f32⟩
  | .hbm, ⟨57, _⟩ => ⟨S8x2048x2816, .f32⟩
  | .hbm, ⟨58, _⟩ => ⟨S1x2816, .f32⟩
  | .hbm, ⟨59, _⟩ => ⟨S2816, .f32⟩
  | .hbm, ⟨60, _⟩ => ⟨S8x2048x2816, .f32⟩
  | .hbm, ⟨61, _⟩ => ⟨S1x1x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x2816, .f32⟩
  | .hbm, ⟨66, _⟩ => ⟨S8x2048x2816, .f32⟩
  | .hbm, ⟨67, _⟩ => ⟨S_, .f32⟩
  | .hbm, ⟨68, _⟩ => ⟨S8x2048x2816, .f32⟩
  | .hbm, ⟨69, _⟩ => ⟨S8x2048x2816, .f32⟩
  | .hbm, ⟨70, _⟩ => ⟨S_, .f32⟩
  | .hbm, ⟨71, _⟩ => ⟨S8x2048x2816, .f32⟩
  | .hbm, ⟨72, _⟩ => ⟨S8x2048x2816, .f32⟩
  | .hbm, ⟨73, _⟩ => ⟨S8x2048x2816, .f32⟩
  | .hbm, ⟨74, _⟩ => ⟨S8x2048x2816, .f32⟩
  | .hbm, ⟨75, _⟩ => ⟨S32x512x2816, .f32⟩
  | .hbm, ⟨76, _⟩ => ⟨S32x2x2816, .f32⟩
  | .hbm, ⟨77, _⟩ => ⟨S16384x2816, .f32⟩
  | .hbm, ⟨78, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== MergeKernel.lean ====
abbrev S8x2048x256 : Shape := ⟨3, ![8, 2048, 256]⟩
abbrev S8x2048x4x64 : Shape := ⟨4, ![8, 2048, 4, 64]⟩
abbrev S256 : Shape := ⟨1, ![256]⟩
abbrev S8x2048x7560 : Shape := ⟨3, ![8, 2048, 7560]⟩
abbrev S8x2048x1024 : Shape := ⟨3, ![8, 2048, 1024]⟩
abbrev S40x6144 : Shape := ⟨2, ![40, 6144]⟩
abbrev S256x1024 : Shape := ⟨2, ![256, 1024]⟩
abbrev S1024x1024 : Shape := ⟨2, ![1024, 1024]⟩
abbrev S8x2048x4096 : Shape := ⟨3, ![8, 2048, 4096]⟩
abbrev S8x2048x896 : Shape := ⟨3, ![8, 2048, 896]⟩
abbrev S8x2048x8 : Shape := ⟨3, ![8, 2048, 8]⟩
abbrev S_ : Shape := ⟨0, ![]⟩
abbrev S8x2048x120 : Shape := ⟨3, ![8, 2048, 120]⟩
abbrev S8x2048x768 : Shape := ⟨3, ![8, 2048, 768]⟩
abbrev S8x2048x7680 : Shape := ⟨3, ![8, 2048, 7680]⟩
abbrev S16384x256 : Shape := ⟨2, ![16384, 256]⟩
abbrev S1x256 : Shape := ⟨2, ![1, 256]⟩
abbrev S16384x7680 : Shape := ⟨2, ![16384, 7680]⟩
abbrev S16384x1024 : Shape := ⟨2, ![16384, 1024]⟩
abbrev S40x1024 : Shape := ⟨2, ![40, 1024]⟩
abbrev S8x1024 : Shape := ⟨2, ![8, 1024]⟩
abbrev S8x1x1024 : Shape := ⟨3, ![8, 1, 1024]⟩
abbrev S256x256 : Shape := ⟨2, ![256, 256]⟩
abbrev S256x4096 : Shape := ⟨2, ![256, 4096]⟩
abbrev S1x1x1024 : Shape := ⟨3, ![1, 1, 1024]⟩
abbrev S1x1024 : Shape := ⟨2, ![1, 1024]⟩

abbrev nBuf : Space → Nat
  | .hbm => 57
  | .vmem => 26
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x4x64, .f32⟩
  | .hbm, ⟨4, _⟩ => ⟨S8x2048x256, .f32⟩
  | .hbm, ⟨5, _⟩ => ⟨S8x2048x256, .f32⟩
  | .hbm, ⟨6, _⟩ => ⟨S256, .f32⟩
  | .hbm, ⟨7, _⟩ => ⟨S8x2048x7560, .f32⟩
  | .hbm, ⟨8, _⟩ => ⟨S8x2048x1024, .f32⟩
  | .hbm, ⟨9, _⟩ => ⟨S40x6144, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S1024x1024, .f32⟩
  | .hbm, ⟨15, _⟩ => ⟨S8x2048x4096, .f32⟩
  | .hbm, ⟨16, _⟩ => ⟨S8x2048x896, .f32⟩
  | .hbm, ⟨17, _⟩ => ⟨S8x2048x8, .f32⟩
  | .hbm, ⟨18, _⟩ => ⟨S_, .f32⟩
  | .hbm, ⟨19, _⟩ => ⟨S8x2048x120, .f32⟩
  | .hbm, ⟨20, _⟩ => ⟨S8x2048x1024, .f32⟩
  | .hbm, ⟨21, _⟩ => ⟨S8x2048x768, .f32⟩
  | .hbm, ⟨22, _⟩ => ⟨S8x2048x768, .f32⟩
  | .hbm, ⟨23, _⟩ => ⟨S8x2048x7680, .f32⟩
  | .hbm, ⟨24, _⟩ => ⟨S256x1024, .bf16⟩
  | .hbm, ⟨25, _⟩ => ⟨S256x1024, .bf16⟩
  | .hbm, ⟨26, _⟩ => ⟨S256x1024, .bf16⟩
  | .hbm, ⟨27, _⟩ => ⟨S256x1024, .bf16⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S1x256, .f32⟩
  | .hbm, ⟨35, _⟩ => ⟨S16384x7680, .f32⟩
  | .hbm, ⟨36, _⟩ => ⟨S16384x1024, .f32⟩
  | .hbm, ⟨37, _⟩ => ⟨S40x1024, .f32⟩
  | .hbm, ⟨38, _⟩ => ⟨S8x1024, .f32⟩
  | .hbm, ⟨39, _⟩ => ⟨S8x1x1024, .f32⟩
  | .hbm, ⟨40, _⟩ => ⟨S40x1024, .f32⟩
  | .hbm, ⟨41, _⟩ => ⟨S8x1024, .f32⟩
  | .hbm, ⟨42, _⟩ => ⟨S8x1x1024, .f32⟩
  | .hbm, ⟨43, _⟩ => ⟨S40x1024, .f32⟩
  | .hbm, ⟨44, _⟩ => ⟨S8x1024, .f32⟩
  | .hbm, ⟨45, _⟩ => ⟨S8x1x1024, .f32⟩
  | .hbm, ⟨46, _⟩ => ⟨S40x1024, .f32⟩
  | .hbm, ⟨47, _⟩ => ⟨S8x1024, .f32⟩
  | .hbm, ⟨48, _⟩ => ⟨S8x1x1024, .f32⟩
  | .hbm, ⟨49, _⟩ => ⟨S40x1024, .f32⟩
  | .hbm, ⟨50, _⟩ => ⟨S8x1024, .f32⟩
  | .hbm, ⟨51, _⟩ => ⟨S8x1x1024, .f32⟩
  | .hbm, ⟨52, _⟩ => ⟨S40x1024, .f32⟩
  | .hbm, ⟨53, _⟩ => ⟨S8x1024, .f32⟩
  | .hbm, ⟨54, _⟩ => ⟨S8x1x1024, .f32⟩
  | .hbm, ⟨55, _⟩ => ⟨S1024x1024, .bf16⟩
  | .hbm, ⟨56, _⟩ => ⟨S16384x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S256x4096, .f32⟩
  | .local _ .vmem, ⟨14, _⟩ => ⟨S256x4096, .f32⟩
  | .local _ .vmem, ⟨15, _⟩ => ⟨S256x1024, .f32⟩
  | .local _ .vmem, ⟨16, _⟩ => ⟨S256x1024, .f32⟩
  | .local _ .vmem, ⟨17, _⟩ => ⟨S1x1x1024, .f32⟩
  | .local _ .vmem, ⟨18, _⟩ => ⟨S1x1x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1024x1024, .bf16⟩
  | .local _ .vmem, ⟨24, _⟩ => ⟨S256x1024, .f32⟩
  | .local _ .vmem, ⟨25, _⟩ => ⟨S256x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeReferenceIdeal.lean ====
abbrev S8x2048x256 : Shape := ⟨3, ![8, 2048, 256]⟩
abbrev S8x2048x4x64 : Shape := ⟨4, ![8, 2048, 4, 64]⟩
abbrev S256 : Shape := ⟨1, ![256]⟩
abbrev S8x2048x7560 : Shape := ⟨3, ![8, 2048, 7560]⟩
abbrev S8x2048x1024 : Shape := ⟨3, ![8, 2048, 1024]⟩
abbrev S40x6144 : Shape := ⟨2, ![40, 6144]⟩
abbrev S256x1024 : Shape := ⟨2, ![256, 1024]⟩
abbrev S1024x1024 : Shape := ⟨2, ![1024, 1024]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S8x2048x4 : Shape := ⟨3, ![8, 2048, 4]⟩
abbrev S8x2048x4x1 : Shape := ⟨4, ![8, 2048, 4, 1]⟩
abbrev S1x1x256 : Shape := ⟨3, ![1, 1, 256]⟩
abbrev S8x2048x4096 : Shape := ⟨3, ![8, 2048, 4096]⟩
abbrev S8x2048x4x1024 : Shape := ⟨4, ![8, 2048, 4, 1024]⟩
abbrev S8x2048x1x1024 : Shape := ⟨4, ![8, 2048, 1, 1024]⟩
abbrev S16384x1024 : Shape := ⟨2, ![16384, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x4x64, .f32⟩
  | .hbm, ⟨4, _⟩ => ⟨S8x2048x256, .f32⟩
  | .hbm, ⟨5, _⟩ => ⟨S8x2048x256, .f32⟩
  | .hbm, ⟨6, _⟩ => ⟨S256, .f32⟩
  | .hbm, ⟨7, _⟩ => ⟨S8x2048x7560, .f32⟩
  | .hbm, ⟨8, _⟩ => ⟨S8x2048x1024, .f32⟩
  | .hbm, ⟨9, _⟩ => ⟨S40x6144, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S1024x1024, .f32⟩
  | .hbm, ⟨15, _⟩ => ⟨S8x6144, .f32⟩
  | .hbm, ⟨16, _⟩ => ⟨S8x1x6144, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S_, .f32⟩
  | .hbm, ⟨24, _⟩ => ⟨S8x2048x4, .f32⟩
  | .hbm, ⟨25, _⟩ => ⟨S8x2048x4x1, .f32⟩
  | .hbm, ⟨26, _⟩ => ⟨S_, .f32⟩
  | .hbm, ⟨27, _⟩ => ⟨S8x2048x4x1, .f32⟩
  | .hbm, ⟨28, _⟩ => ⟨S8x2048x4x1, .f32⟩
  | .hbm, ⟨29, _⟩ => ⟨S8x2048x4x64, .f32⟩
  | .hbm, ⟨30, _⟩ => ⟨S8x2048x4x64, .f32⟩
  | .hbm, ⟨31, _⟩ => ⟨S8x2048x4x64, .f32⟩
  | .hbm, ⟨32, _⟩ => ⟨S_, .f32⟩
  | .hbm, ⟨33, _⟩ => ⟨S8x2048x4, .f32⟩
  | .hbm, ⟨34, _⟩ => ⟨S8x2048x4x1, .f32⟩
  | .hbm, ⟨35, _⟩ => ⟨S_, .f32⟩
  | .hbm, ⟨36, _⟩ => ⟨S8x2048x4x1, .f32⟩
  | .hbm, ⟨37, _⟩ => ⟨S8x2048x4x1, .f32⟩
  | .hbm, ⟨38, _⟩ => ⟨S_, .f32⟩
  | .hbm, ⟨39, _⟩ => ⟨S8x2048x4x1, .f32⟩
  | .hbm, ⟨40, _⟩ => ⟨S8x2048x4x1, .f32⟩
  | .hbm, ⟨41, _⟩ => ⟨S8x2048x4x1, .f32⟩
  | .hbm, ⟨42, _⟩ => ⟨S8x2048x4x64, .f32⟩
  | .hbm, ⟨43, _⟩ => ⟨S8x2048x4x64, .f32⟩
  | .hbm, ⟨44, _⟩ => ⟨S8x2048x256, .f32⟩
  | .hbm, ⟨45, _⟩ => ⟨S1x1x256, .f32⟩
  | .hbm, ⟨46, _⟩ => ⟨S8x2048x256, .f32⟩
  | .hbm, ⟨47, _⟩ => ⟨S8x2048x256, .f32⟩
  | .hbm, ⟨48, _⟩ => ⟨S8x2048x256, .f32⟩
  | .hbm, ⟨49, _⟩ => ⟨S8x2048x256, .f32⟩
  | .hbm, ⟨50, _⟩ => ⟨S8x2048x4096, .f32⟩
  | .hbm, ⟨51, _⟩ => ⟨S8x2048x4096, .f32⟩
  | .hbm, ⟨52, _⟩ => ⟨S8x2048x4096, .f32⟩
  | .hbm, ⟨53, _⟩ => ⟨S_, .f32⟩
  | .hbm, ⟨54, _⟩ => ⟨S8x2048x4096, .f32⟩
  | .hbm, ⟨55, _⟩ => ⟨S8x2048x4096, .f32⟩
  | .hbm, ⟨56, _⟩ => ⟨S_, .f32⟩
  | .hbm, ⟨57, _⟩ => ⟨S8x2048x4096, .f32⟩
  | .hbm, ⟨58, _⟩ => ⟨S8x2048x4096, .f32⟩
  | .hbm, ⟨59, _⟩ => ⟨S8x2048x4x1024, .f32⟩
  | .hbm, ⟨60, _⟩ => ⟨S8x2048x1x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S16384x1024, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Proof.Rows.lean ====
/- The mLSTM step of one (batch row, head) over eight positions, as formulas over the extended reals: what both the
   kernel and the reference compute, and the scalar equations between their two ways of writing it. -/
module

public import Idealize.ShloMosaic.Lib.Pointwise

@[expose] public section

noncomputable section

namespace Cert.Mlstm

open Idealize.ShloMosaic

/-- The absolute value. -/
def absE (x : EReal) : EReal := max x (-x)

/-- The log-sigmoid as `min(x, 0) − log(1 + exp(−|x|))`. -/
def lsig (x : EReal) : EReal := min x 0 - Ideal.log (1 + Ideal.exp (0 - absE x))

/-- The float −∞ the masks and the maxima start from. -/
def ninf : EReal := Ideal.ofBits .f32 0xFF800000#32

/-- The logistic function as `½·tanh(½·x) + ½`. -/
def sgm (x : EReal) : EReal :=
  Ideal.ofBits .f32 0x3F000000#32 * Ideal.tanh (Ideal.ofBits .f32 0x3F000000#32 * x) + Ideal.ofBits .f32 0x3F000000#32

section
variable (q k v o : Fin 8 → Fin 64 → EReal) (li lf : Fin 8 → EReal) (g : Fin 64 → EReal)
  (C : Fin 64 → Fin 64 → EReal) (N : Fin 64 → EReal) (M : EReal)

/-- The running sum. -/
def cum (t : Fin 8) : EReal := ∑ s : Fin 8, if s ≤ t then lf s else 0

/-- The log weight of position `s` at position `t`. -/
def dw (t s : Fin 8) : EReal := if s ≤ t then cum lf t - cum lf s + li s else ninf

/-- The stabiliser of position `t`. -/
def mrow (t : Fin 8) : EReal := max (Finset.univ.fold max ninf (fun s => dw li lf t s)) (cum lf t + M)

/-- The weight of position `s` at position `t`, times the score. -/
def wt (t s : Fin 8) : EReal := Ideal.exp (dw li lf t s - mrow li lf M t) * ∑ d : Fin 64, q t d * k s d

/-- The weight of the incoming state at position `t`. -/
def ai (t : Fin 8) : EReal := Ideal.exp (cum lf t + M - mrow li lf M t)

/-- The numerator. -/
def nu (t : Fin 8) (e : Fin 64) : EReal :=
  ∑ s : Fin 8, wt q k li lf M t s * v s e + ai li lf M t * ∑ d : Fin 64, q t d * C d e

/-- The denominator before its lower bound. -/
def de (t : Fin 8) : EReal := ∑ s : Fin 8, wt q k li lf M t s + ai li lf M t * ∑ d : Fin 64, q t d * N d

/-- The hidden row. -/
def hid (t : Fin 8) (e : Fin 64) : EReal :=
  Ideal.div (nu q k v li lf C M t e) (max (absE (de q k li lf N M t)) (Ideal.exp (0 - mrow li lf M t)))

/-- The activation. -/
def act (t : Fin 8) (e : Fin 64) : EReal :=
  hid q k v li lf C N M t e * Ideal.rsqrt (Ideal.div (∑ d : Fin 64, hid q k v li lf C N M t d * hid q k v li lf C N M t d)
    (Ideal.ofBits .f32 0x42800000#32) + Ideal.ofBits .f32 0x358637BD#32) * g e * sgm (o t e)

/-- The log weight of position `s` in the outgoing state. -/
def gl (s : Fin 8) : EReal := cum lf 7 - cum lf s + li s

/-- The outgoing stabiliser. -/
def mNew : EReal := max (cum lf 7 + M) (Finset.univ.fold max ninf (fun s => gl li lf s))

/-- The weighted keys. -/
def wk (s : Fin 8) (d : Fin 64) : EReal := Ideal.exp (gl li lf s - mNew li lf M) * k s d

/-- What the incoming state is multiplied by. -/
def dec : EReal := Ideal.exp (cum lf 7 + M - mNew li lf M)

/-- The outgoing matrix state. -/
def stC (d e : Fin 64) : EReal := dec li lf M * C d e + ∑ s : Fin 8, wk k li lf M s d * v s e

/-- The outgoing normaliser. -/
def stN (d : Fin 64) : EReal := dec li lf M * N d + ∑ s : Fin 8, wk k li lf M s d

end

/-- Comparing two small positions as 32-bit words compares them as numbers. -/
theorem cmp_le : ∀ s t : Fin 8, IntOp.cmpi CmpIPredicate.sle (BitVec.ofNat 32 s) (BitVec.ofNat 32 t) = if s ≤ t then 1#1 else 0#1 := by
  decide

/-- Two small positions are equal as 32-bit words when they are equal as numbers. -/
theorem cmp_eq : ∀ s t : Fin 8, IntOp.cmpi CmpIPredicate.eq (BitVec.ofNat 32 s) (BitVec.ofNat 32 t) = if s = t then 1#1 else 0#1 := by
  decide

/-- A select on a decided proposition is the `if`. -/
theorem sel_ite {p : Prop} [Decidable p] (a b : EReal) : Scalar.select (if p then 1#1 else 0#1) a b = if p then a else b := by
  by_cases h : p <;> simp [Scalar.select, h]

/-- The float −∞ is the least extended real. -/
theorem ninf_eq : ninf = ⊥ := by
  simp [ninf, Ideal.ofBits, Ideal.ieee]

/-- One half. -/
theorem half_eq : Ideal.ofBits .f32 0x3F000000#32 = ((1 / 2 : ℝ) : EReal) := by
  simp [Ideal.ofBits, Ideal.ieee]
  rw [← EReal.coe_mul]
  norm_num

/-- The absolute value does not see the sign, nor a zero taken off. -/
theorem absE_neg (x : EReal) : absE (-x - 0) = absE x := by
  simp only [absE, sub_zero, neg_neg]
  exact max_comm _ _

/-- The exponential at −∞. -/
theorem exp_bot : Ideal.exp ⊥ = 0 := rfl
/-- The exponential at +∞. -/
theorem exp_top : Ideal.exp ⊤ = ⊤ := rfl
/-- The hyperbolic tangent at −∞. -/
theorem tanh_bot : Ideal.tanh ⊥ = -1 := rfl
/-- The hyperbolic tangent at +∞. -/
theorem tanh_top : Ideal.tanh ⊤ = 1 := rfl

/-- `log(1 + exp(−|x|))` is a real number. -/
theorem log_real (x : EReal) : ∃ r : ℝ, Ideal.log (1 + Ideal.exp (0 - absE x)) = (r : EReal) := by
  have key : ∀ y : ℝ, ∃ r : ℝ, Ideal.log (1 + (y : EReal)) = (r : EReal) ∨ y ≤ -1 := by
    intro y
    refine ⟨Real.log (1 + y), ?_⟩
    by_cases hy : y ≤ -1
    · exact .inr hy
    · left
      have h1 : (1 : EReal) + (y : EReal) = ((1 + y : ℝ) : EReal) := by push_cast; rfl
      rw [h1]
      show (if 1 + y ≤ 0 then ⊥ else ((Real.log (1 + y) : ℝ) : EReal)) = _
      rw [if_neg (by linarith [not_le.mp hy])]
  have fin : ∀ y : ℝ, 0 ≤ y → ∃ r : ℝ, Ideal.log (1 + (y : EReal)) = (r : EReal) := by
    intro y hy
    obtain ⟨r, h | h⟩ := key y
    · exact ⟨r, h⟩
    · linarith
  induction x using EReal.rec with
  | bot => simpa [absE, exp_bot] using fin 0 le_rfl
  | top => simpa [absE, exp_bot] using fin 0 le_rfl
  | coe x =>
    have h : (0 : EReal) - absE (x : EReal) = ((-(max x (-x)) : ℝ) : EReal) := by
      simp only [absE, zero_sub]
      rw [EReal.coe_neg]; congr 1
    rw [h]
    exact fin _ (Real.exp_pos _).le

/-- Minus the greater of `−x` and zero is the lesser of `x` and zero. -/
theorem neg_max_neg (x : EReal) : -(max (-x) 0) = min x 0 := by
  rcases le_total x 0 with h | h
  · rw [min_eq_left h, max_eq_left (by simpa using EReal.neg_le_neg_iff.mpr h), neg_neg]
  · rw [min_eq_right h, max_eq_right (by simpa using EReal.neg_le_neg_iff.mpr h), neg_zero]

/-- The log-sigmoid as −softplus(−x), with softplus written as a stable log-add-exp. -/
theorem lsig_eq (x : EReal) : -(max (-x) 0 + Ideal.log1p (Ideal.exp (-(absE (-x - 0))))) = lsig x := by
  obtain ⟨r, hr⟩ := log_real x
  have h : Ideal.log1p (Ideal.exp (-(absE (-x - 0)))) = (r : EReal) := by
    rw [absE_neg, Ideal.log1p, ← hr, zero_sub]
  rw [h, lsig, hr, EReal.neg_add (.inr (EReal.coe_ne_top r)) (.inr (EReal.coe_ne_bot r)), neg_max_neg]

/-- The logistic function as a quotient. -/
theorem sgm_eq (x : EReal) : Ideal.div 1 (1 + Ideal.exp (-x)) = sgm x := by
  have h2 : (0 : ℝ) < 1 / 2 := by norm_num
  simp only [sgm, half_eq]
  induction x using EReal.rec with
  | bot =>
    rw [EReal.coe_mul_bot_of_pos h2]
    have h1 : (1 : EReal) + ⊤ = ⊤ := rfl
    have h3 : ((1 / 2 : ℝ) : EReal) * -1 + ((1 / 2 : ℝ) : EReal) = 0 := by
      rw [show (-1 : EReal) = ((-1 : ℝ) : EReal) by simp, ← EReal.coe_mul, ← EReal.coe_add]; norm_num
    rw [EReal.neg_bot, exp_top, tanh_bot, h1, h3]
    simp [Ideal.div]
  | top =>
    rw [EReal.coe_mul_top_of_pos h2]
    have h3 : ((1 / 2 : ℝ) : EReal) * 1 + ((1 / 2 : ℝ) : EReal) = 1 := by
      rw [mul_one, ← EReal.coe_add]; norm_num
    rw [EReal.neg_top, exp_bot, tanh_top, h3]
    simp [Ideal.div]
  | coe x =>
    have e : (1 : EReal) + Ideal.exp (-(x : EReal)) = ((1 + Real.exp (-x) : ℝ) : EReal) := by
      rw [← EReal.coe_neg]; push_cast; rfl
    have hp : (1 + Real.exp (-x) : ℝ) ≠ 0 := by positivity
    rw [e, Ideal.div_coe hp, one_mul, ← EReal.coe_mul]
    show _ = ((1 / 2 : ℝ) : EReal) * ((Real.tanh (1 / 2 * x) : ℝ) : EReal) + _
    rw [← EReal.coe_mul, ← EReal.coe_add]
    congr 1
    rw [Real.tanh_eq_sinh_div_cosh, Real.sinh_eq, Real.cosh_eq]
    have hx : Real.exp (-x) = Real.exp (-(1 / 2 * x)) * Real.exp (-(1 / 2 * x)) := by
      rw [← Real.exp_add]; congr 1; ring
    have hi : Real.exp (1 / 2 * x) * Real.exp (-(1 / 2 * x)) = 1 := by
      rw [← Real.exp_add]; simp
    set a := Real.exp (1 / 2 * x)
    set b := Real.exp (-(1 / 2 * x))
    have ha : 0 < a := Real.exp_pos _
    have hb : 0 < b := Real.exp_pos _
    rw [hx]
    have h3 : a + b ≠ 0 := by positivity
    have h4 : 1 + b * b ≠ 0 := by positivity
    field_simp
    nlinarith [hi]

end Cert.Mlstm

end
-- ==== Proof.Heads.lean ====
/- Sums over the 64 columns of a head, as a product with ones at the head's own columns gives them. -/
module

public import Idealize.ShloMosaic.Lib.Pointwise

@[expose] public section

noncomputable section

namespace Cert.Heads

open Idealize.ShloMosaic

/-- The sum over the columns of the head that column `n` is in. -/
def hsum (y : Fin 256 → EReal) (n : Fin 256) : EReal := ∑ j : Fin 64, y ⟨n.val / 64 * 64 + j, by omega⟩

/-- The product with ones at the head's own columns is the sum over them. -/
theorem sum_ones (y : Fin 256 → EReal) (n : Fin 256) :
    ∑ k : Fin 256, y k * (if k.val / 64 = n.val / 64 then 1 else 0) = hsum y n := by
  have e : ∑ k : Fin 256, y k * (if k.val / 64 = n.val / 64 then (1 : EReal) else 0)
      = ∑ p : Fin 4 × Fin 64, y (finProdFinEquiv p) * (if (finProdFinEquiv p : Fin 256).val / 64 = n.val / 64 then (1 : EReal) else 0) :=
    (Equiv.sum_comp (finProdFinEquiv : Fin 4 × Fin 64 ≃ Fin 256) _).symm
  rw [e, Fintype.sum_prod_type, Finset.sum_eq_single (⟨n.val / 64, by omega⟩ : Fin 4)]
  · refine Finset.sum_congr rfl fun j _ => ?_
    have h : (finProdFinEquiv ((⟨n.val / 64, by omega⟩ : Fin 4), j) : Fin 256) = ⟨n.val / 64 * 64 + j, by omega⟩ := by
      apply Fin.ext
      simp only [finProdFinEquiv_apply_val]
      omega
    rw [h, if_pos (by show (n.val / 64 * 64 + j.val) / 64 = n.val / 64; omega), mul_one]
  · intro a _ ha
    refine Finset.sum_eq_zero fun j _ => ?_
    rw [if_neg, mul_zero]
    simp only [finProdFinEquiv_apply_val]
    intro h
    exact ha (Fin.ext (by show a.val = n.val / 64; omega))
  · intro h
    exact absurd (Finset.mem_univ _) h

/-- The parts lost by a rounding that loses nothing add nothing. -/
theorem sum_split (y : Fin 256 → EReal) (hy : ∀ k, ∃ r : ℝ, y k = (r : EReal)) (n : Fin 256) :
    ∑ k : Fin 256, y k * (if k.val / 64 = n.val / 64 then 1 else 0)
      + ∑ k : Fin 256, (y k - y k) * (if k.val / 64 = n.val / 64 then 1 else 0) = hsum y n := by
  have h : ∀ k, y k - y k = 0 := fun k => by
    obtain ⟨r, hr⟩ := hy k
    rw [hr, ← EReal.coe_sub, sub_self, EReal.coe_zero]
  simp only [h, zero_mul, Finset.sum_const_zero, add_zero]
  exact sum_ones y n

/-- A head's sum of real numbers is a real number. -/
theorem hsum_real (y : Fin 256 → EReal) (hy : ∀ k, ∃ r : ℝ, y k = (r : EReal)) (n : Fin 256) : ∃ r : ℝ, hsum y n = (r : EReal) := by
  choose f hf using hy
  exact ⟨∑ j : Fin 64, f ⟨n.val / 64 * 64 + j, by omega⟩, by simp only [hsum, hf]; exact (map_sum (⟨⟨((↑) : ℝ → EReal), EReal.coe_zero⟩, EReal.coe_add⟩ : ℝ →+ EReal) _ _).symm⟩

end Cert.Heads
-- ==== Proof.MergeRows.lean ====
/- The merge of the branches, row by row: the recurrence's output normed head by head, the gated sum of the branches' products with their
   weights, and the reference's and a step's values as those formulas. -/
module

public import proofs.«01_k».proof.Proof.Rows
public import proofs.«01_k».proof.Proof.Heads
public import proofs.«01_k».proof.Proof.Gen.MergeKernelIdeal.Value
public import proofs.«01_k».proof.Proof.Gen.MergeReferenceIdeal.Run
public import proofs.«01_k».proof.Proof.Gen.MergeReferenceIdeal.Read
public import Idealize.ShloMosaic.Lib.Pipeline.Value
public import Idealize.ShloMosaic.Lib.Pipeline.ValueKit
public import Idealize.ShloMosaic.Lib.Tactic
public import Idealize.ShloMosaic.Lib.Claim
public import Idealize.ShloMosaic.Lib.Pointwise

@[expose] public section

set_option maxRecDepth 16384

noncomputable section

namespace Cert.Merge

open Idealize.ShloMosaic Idealize.ShloMosaic.TcCoe Idealize.SL.Sem
open Cert.Heads (hsum)
open Cert.Mlstm (sgm)

/-- An element less its head's mean. -/
def cent (y : Fin 256 → EReal) (n : Fin 256) : EReal := y n - Ideal.div (hsum y n) (Ideal.ofBits FTy.f32 0x42800000#32)

/-- An element normed over its head. -/
def gnorm (y : Fin 256 → EReal) (n : Fin 256) : EReal :=
  cent y n * Ideal.rsqrt (Ideal.div (hsum (fun k => cent y k * cent y k) n) (Ideal.ofBits FTy.f32 0x42800000#32) + Ideal.ofBits FTy.f32 0x3A27C5AC#32)

/-- The recurrence's branch: the normed output, scaled, with its bonus, gated. -/
def branch (y bo g gn : Fin 256 → EReal) (k : Fin 256) : EReal := (gnorm y k * gn k + bo k) * g k

/-- One element of the gated sum of the four branches' products with their weights. -/
def merged (ml sc mb rw : Fin 256 → EReal) (z : Fin 4096 → EReal) (p0 p1 p2 p3 : Fin 256 → Fin 1024 → EReal) (d : Fin 1024) : EReal :=
  sgm (z ⟨d, by omega⟩) * (∑ k, ml k * p0 k d) + sgm (z ⟨1024 + d, by omega⟩) * (∑ k, sc k * p1 k d)
    + sgm (z ⟨2048 + d, by omega⟩) * (∑ k, mb k * p2 k d) + sgm (z ⟨3072 + d, by omega⟩) * (∑ k, rw k * p3 k d)

section Reference
open Cert.MergeReferenceIdeal Cert.MergeReferenceIdeal.Gen Cert.MergeReferenceIdeal.Read

/-- A row of the recurrence's output, its heads side by side. -/
def yrow (y : FVec Ideal S8x2048x4x64 .f32) (b : Fin 8) (s : Fin 2048) (k : Fin 256) : EReal :=
  y (ix4 b s ⟨k / 64, by omega⟩ ⟨k % 64, by omega⟩)

/-- A head's sum, over the heads side by side. -/
theorem hsum_yrow (y : FVec Ideal S8x2048x4x64 .f32) (b : Fin 8) (s : Fin 2048) (n : Fin 256) :
    hsum (yrow y b s) n = ∑ j : Fin 64, y (ix4 b s ⟨n / 64, by omega⟩ j) := by
  refine Finset.sum_congr rfl fun j _ => ?_
  have e1 : (n.val / 64 * 64 + j.val) / 64 = n.val / 64 := by omega
  have e2 : (n.val / 64 * 64 + j.val) % 64 = j.val := by omega
  simp only [yrow, e1, e2]

/-- The reference's element less its head's mean. -/
theorem cent_at (y : FVec Ideal S8x2048x4x64 .f32) (b : Fin 8) (s : Fin 2048) (n : Fin 256) :
    yrow (val_main_v13 (F := Ideal) y) b s n = cent (yrow y b s) n := by
  unfold cent
  rw [hsum_yrow]
  unfold yrow
  pointwise [val_main_v13, val_main_v12, val_main_v11, val_main_v10, val_main_cst_0, val_main_v9, val_main_v8, val_main_cst]
  try rfl

/-- The reference's element normed over its head. -/
theorem norm_at (y : FVec Ideal S8x2048x4x64 .f32) (b : Fin 8) (s : Fin 2048) (n : Fin 256) :
    yrow (val_main_v23 (F := Ideal) y) b s n = gnorm (yrow y b s) n := by
  unfold gnorm
  have e : (fun k => cent (yrow y b s) k * cent (yrow y b s) k) = yrow (val_main_v14 (F := Ideal) y) b s := by
    funext k
    rw [← cent_at]
    rfl
  rw [e, ← cent_at, hsum_yrow]
  unfold yrow val_main_v23 val_main_v22 val_main_v21 val_main_v20 val_main_v18 val_main_v16 val_main_v15
  generalize val_main_v14 (F := Ideal) y = q
  generalize val_main_v13 (F := Ideal) y = p
  pointwise [val_main_v19, val_main_cst_3, val_main_v17, val_main_cst_2, val_main_cst_1]
  try rfl

/-- The reference's recurrence branch. -/
theorem branch_at (y : FVec Ideal S8x2048x4x64 .f32) (bo g : FVec Ideal S8x2048x256 .f32) (gn : FVec Ideal S256 .f32)
    (b : Fin 8) (s : Fin 2048) (n : Fin 256) : val_main_v29 (F := Ideal) y bo g gn (ix3 b s n)
    = branch (yrow y b s) (fun k => bo (ix3 b s k)) (fun k => g (ix3 b s k)) (fun k => gn (ix1 k)) n := by
  unfold branch
  rw [← norm_at]
  unfold val_main_v29 val_main_v28 val_main_v27 val_main_v24 yrow
  generalize val_main_v23 (F := Ideal) y = p
  pointwise [val_main_v26, val_main_v25]
  try rfl

/-- The reference's gates. -/
theorem gate_at (z : FVec Ideal S8x2048x7560 .f32) (b : Fin 8) (s : Fin 2048) (j : Fin 4) (d : Fin 1024) :
    val_main_v37 (F := Ideal) z (ix4 b s j d) = sgm (z (ix3 b s ⟨3464 + (j * 1024 + d), by omega⟩)) := by
  rw [← Cert.Mlstm.sgm_eq]
  pointwise [val_main_v37, val_main_v36, val_main_v35, val_main_cst_5, val_main_v34, val_main_v33, val_main_cst_4, val_main_v32, val_main_v31, val_main_v30]
  try rfl

/-- The reference's gated sum of the branches. -/
theorem merged_at (ml sc mb : FVec Ideal S8x2048x256 .f32) (y : FVec Ideal S8x2048x4x64 .f32) (bo g : FVec Ideal S8x2048x256 .f32)
    (gn : FVec Ideal S256 .f32) (z : FVec Ideal S8x2048x7560 .f32) (p0 p1 p2 p3 : FVec Ideal S256x1024 .f32)
    (b : Fin 8) (s : Fin 2048) (d : Fin 1024) : val_main_v56 (F := Ideal) ml sc mb y bo g gn z p0 p1 p2 p3 (ix3 b s d)
    = merged (fun k => ml (ix3 b s k)) (fun k => sc (ix3 b s k)) (fun k => mb (ix3 b s k))
        (branch (yrow y b s) (fun k => bo (ix3 b s k)) (fun k => g (ix3 b s k)) (fun k => gn (ix1 k)))
        (fun x => z (ix3 b s ⟨3464 + x, by omega⟩)) (fun k d => p0 (ix2 k d)) (fun k d => p1 (ix2 k d))
        (fun k d => p2 (ix2 k d)) (fun k d => p3 (ix2 k d)) d := by
  unfold merged
  simp only [← branch_at]
  have h0 := gate_at z b s 0 d
  have h1 := gate_at z b s 1 d
  have h2 := gate_at z b s 2 d
  have h3 := gate_at z b s 3 d
  simp only [Fin.val_zero, Fin.val_one, Fin.val_two, zero_mul, one_mul, zero_add, show (2 : ℕ) * 1024 = 2048 from rfl, show ((3 : Fin 4) : ℕ) * 1024 = 3072 from rfl] at h0 h1 h2 h3
  rw [← h0, ← h1, ← h2, ← h3]
  unfold val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38
  generalize val_main_v37 (F := Ideal) z = q
  generalize val_main_v29 (F := Ideal) y bo g gn = p
  pointwise []
  try rfl

/-- One element of the result: the stream's element plus the sequence's gate times the gated sum's product with the output weights. -/
def elt (ml sc mb : FVec Ideal S8x2048x256 .f32) (y : FVec Ideal S8x2048x4x64 .f32) (bo g : FVec Ideal S8x2048x256 .f32)
    (gn : FVec Ideal S256 .f32) (z : FVec Ideal S8x2048x7560 .f32) (x : FVec Ideal S8x2048x1024 .f32) (mod : FVec Ideal S40x6144 .f32)
    (p0 p1 p2 p3 : FVec Ideal S256x1024 .f32) (wo : FVec Ideal S1024x1024 .f32) (b : Fin 8) (s : Fin 2048) (n : Fin 1024) : EReal :=
  x (ix3 b s n) + mod (ix2 ⟨b, by omega⟩ ⟨2048 + n, by omega⟩) * ∑ d : Fin 1024,
    merged (fun k => ml (ix3 b s k)) (fun k => sc (ix3 b s k)) (fun k => mb (ix3 b s k))
      (branch (yrow y b s) (fun k => bo (ix3 b s k)) (fun k => g (ix3 b s k)) (fun k => gn (ix1 k)))
      (fun x => z (ix3 b s ⟨3464 + x, by omega⟩)) (fun k d => p0 (ix2 k d)) (fun k d => p1 (ix2 k d))
      (fun k d => p2 (ix2 k d)) (fun k d => p3 (ix2 k d)) d * wo (ix2 d n)

/-- The reference's result at an index. -/
theorem ref_at (ml sc mb : FVec Ideal S8x2048x256 .f32) (y : FVec Ideal S8x2048x4x64 .f32) (bo g : FVec Ideal S8x2048x256 .f32)
    (gn : FVec Ideal S256 .f32) (z : FVec Ideal S8x2048x7560 .f32) (x : FVec Ideal S8x2048x1024 .f32) (mod : FVec Ideal S40x6144 .f32)
    (p0 p1 p2 p3 : FVec Ideal S256x1024 .f32) (wo : FVec Ideal S1024x1024 .f32) (r : Fin 16384) (n : Fin 1024) :
    val_main_v61 (F := Ideal) ml sc mb y bo g gn z x mod p0 p1 p2 p3 wo (ix2 r n)
    = elt ml sc mb y bo g gn z x mod p0 p1 p2 p3 wo ⟨r / 2048, by omega⟩ ⟨r % 2048, by omega⟩ n := by
  unfold elt
  simp only [← merged_at]
  unfold val_main_v61 val_main_v60 val_main_v59 val_main_v57
  generalize val_main_v56 (F := Ideal) ml sc mb y bo g gn z p0 p1 p2 p3 = q
  pointwise [val_main_v58, val_main_v4, val_main_v1, val_main_v0]

end Reference

section Kernel
open Cert.MergeKernelIdeal Cert.MergeKernelIdeal.Gen

/-- The head of a column, as a word. -/
theorem head_word : ∀ k : Fin 256, Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by
  decide +kernel

/-- The head of a row's column, as a step counts it. -/
theorem pay2_at (k n : Fin 256) : k0_pay2 (ix2 k n) = BitVec.ofNat 32 (k.val / 64) := by
  pointwise [k0_pay2]
  exact head_word k

/-- The head of a column, as a step counts it. -/
theorem pay345_at (k n : Fin 256) : Scalar.select (IntOp.andi (k0_pay4 (ix2 k n)) (k0_pay5 (ix2 k n))) (IntOp.subi (k0_pay3 (ix2 k n)) 1#32)
    (k0_pay3 (ix2 k n)) = BitVec.ofNat 32 (n.val / 64) := by
  pointwise [k0_pay3, k0_pay4, k0_pay5]
  exact head_word n

/-- Comparing two heads' words compares them as numbers. -/
theorem cmp_heads : ∀ a b : Fin 4, IntOp.cmpi CmpIPredicate.eq (BitVec.ofNat 32 a.val) (BitVec.ofNat 32 b.val) = if a.val = b.val then 1#1 else 0#1 := by
  decide

/-- The ones at the head's own columns. -/
theorem ones_at (x n : Fin 256) : FloatOps.sitofp (F := Ideal) FTy.f32 (BitVec.setWidth 32 (IntOp.cmpi CmpIPredicate.eq (k0_pay2 (ix2 x n))
      (Scalar.select (IntOp.andi (k0_pay4 (ix2 x n)) (k0_pay5 (ix2 x n))) (IntOp.subi (k0_pay3 (ix2 x n)) 1#32) (k0_pay3 (ix2 x n)))))
        = if x.val / 64 = n.val / 64 then (1 : EReal) else 0 := by
  rw [pay2_at, pay345_at, cmp_heads ⟨x.val / 64, by omega⟩ ⟨n.val / 64, by omega⟩]
  by_cases h : x.val / 64 = n.val / 64
  · rw [if_pos h, if_pos h]
    show (((BitVec.setWidth 32 1#1).toInt : ℝ) : EReal) = 1
    simp
  · rw [if_neg h, if_neg h]
    show (((BitVec.setWidth 32 0#1).toInt : ℝ) : EReal) = 0
    simp

/-- The gates' sum. -/
theorem pay9_at (ml sc : Vec Ideal S256x256 .f32) (p0 p1 : Vec Ideal S256x1024 .bf16) (z0 z1 : Vec Ideal S256x1024 .f32)
    (r : Fin 256) (d : Fin 1024) : k0_pay9 (F := Ideal) ml sc p0 z0 p1 z1 (ix2 r d)
    = sgm (z0 (ix2 r d)) * (∑ k : Fin 256, ml (ix2 r k) * p0 (ix2 k d)) + sgm (z1 (ix2 r d)) * (∑ k : Fin 256, sc (ix2 r k) * p1 (ix2 k d)) := by
  pointwise [k0_pay9, sgm]
  try rfl

/-- The float 1/64 is the inverse of the float 64. -/
theorem mul_inv64 (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee]
    rw [← EReal.coe_mul]
    norm_num
  have h2 : Ideal.ofBits .f32 0x42800000#32 = ((64 : ℝ) : EReal) := by
    simp [Ideal.ofBits, Ideal.ieee]
    rw [← EReal.coe_mul]
    norm_num
  rw [h1, h2, Ideal.div_coe (by norm_num)]
  try norm_num

/-- An element of a row of real numbers, less its head's mean, is a real number. -/
theorem cent_real (y : Fin 256 → EReal) (hy : ∀ k, ∃ r : ℝ, y k = (r : EReal)) (n : Fin 256) : ∃ r : ℝ, cent y n = (r : EReal) := by
  obtain ⟨a, ha⟩ := hy n
  obtain ⟨b, hb⟩ := Cert.Heads.hsum_real y hy n
  have h1 : Ideal.ofBits .f32 0x3C800000#32 = ((1 / 64 : ℝ) : EReal) := by
    simp [Ideal.ofBits, Ideal.ieee]
    rw [← EReal.coe_mul]
    norm_num
  refine ⟨a - b * (1 / 64), ?_⟩
  rw [cent, ← mul_inv64, ha, hb, h1, ← EReal.coe_mul, ← EReal.coe_sub]

/-- The step's normed recurrence output, for rows of real numbers. -/
theorem pay6_at (v24 v27 : IVec S256x256 32) (v41 v45 : IVec S256x256 1)
    (hbd : ∀ x n : Fin 256, FloatOps.sitofp (F := Ideal) FTy.f32 (BitVec.setWidth 32 (IntOp.cmpi CmpIPredicate.eq (v24 (ix2 x n))
      (Scalar.select (IntOp.andi (v41 (ix2 x n)) (v45 (ix2 x n))) (IntOp.subi (v27 (ix2 x n)) 1#32) (v27 (ix2 x n)))))
        = if x.val / 64 = n.val / 64 then (1 : EReal) else 0)
    (y : Vec Ideal S256x256 .f32) (gn : Vec Ideal S1x256 .f32) (bo : Vec Ideal S256x256 .f32) (r n : Fin 256)
    (hy : ∀ k, ∃ a : ℝ, y (ix2 r k) = (a : EReal)) :
    k0_pay6 (F := Ideal) v24 v27 v41 v45 y gn bo (ix2 r n) = gnorm (fun k => y (ix2 r k)) n * gn (ix2 0 n) + bo (ix2 r n) := by
  pointwise [k0_pay6]
  simp only [hbd]
  have e1 := Cert.Heads.sum_split (fun k => y (ix2 r k)) hy
  simp only [e1, mul_inv64]
  have hc : ∀ x, y (ix2 r x) - Ideal.div (hsum (fun k => y (ix2 r k)) x) (Ideal.ofBits .f32 0x42800000#32) = cent (fun k => y (ix2 r k)) x := fun _ => rfl
  simp only [hc]
  have hq : ∀ k, ∃ a : ℝ, cent (fun k => y (ix2 r k)) k * cent (fun k => y (ix2 r k)) k = (a : EReal) := fun k => by
    obtain ⟨a, ha⟩ := cent_real _ hy k
    exact ⟨a * a, by rw [ha, ← EReal.coe_mul]⟩
  have e2 := Cert.Heads.sum_split (fun k => cent (fun k => y (ix2 r k)) k * cent (fun k => y (ix2 r k)) k) hq
  simp only [e2]
  rfl

/-- What a step stores. -/
theorem pay1_at (x : Vec Ideal S256x1024 .f32) (gt : Vec Ideal S1x1x1024 .f32) (p : FVec Ideal S256x1024 .f32) (r : Fin 256) (n : Fin 1024) :
    k0_pay1 (F := Ideal) (k0_pay11 x) (k0_pay12 gt) p (ix2 r n) = x (ix2 r n) + gt (ix3 0 0 n) * p (ix2 r n) := by
  pointwise [k0_pay1, k0_pay11, k0_pay12]

/-- The gated sum's product with the output weights. -/
theorem pay13_at (rw : FVec Ideal S256x256 .f32) (q : FVec Ideal S256x1024 .f32) (mb : Vec Ideal S256x256 .f32) (p2 p3 : Vec Ideal S256x1024 .bf16)
    (z2 z3 : Vec Ideal S256x1024 .f32) (wo : Vec Ideal S1024x1024 .bf16) (r : Fin 256) (n : Fin 1024) :
    k0_pay13 (F := Ideal) rw q (k0_pay10 mb) p2 z2 p3 z3 wo (ix2 r n)
    = ∑ d : Fin 1024, (q (ix2 r d) + sgm (z2 (ix2 r d)) * (∑ k : Fin 256, mb (ix2 r k) * p2 (ix2 k d))
        + sgm (z3 (ix2 r d)) * (∑ k : Fin 256, rw (ix2 r k) * p3 (ix2 k d))) * wo (ix2 d n) := by
  pointwise [k0_pay13, k0_pay10, sgm]

/-- A step's recurrence branch, for rows of real numbers. -/
theorem pay8_at (y : Vec Ideal S256x256 .f32) (gn : Vec Ideal S1x256 .f32) (bo g : Vec Ideal S256x256 .f32) (r n : Fin 256)
    (hy : ∀ k, ∃ a : ℝ, y (ix2 r k) = (a : EReal)) :
    k0_pay8 (F := Ideal) (k0_pay6 k0_pay2 k0_pay3 k0_pay4 k0_pay5 y gn bo) (k0_pay7 g) (ix2 r n)
    = branch (fun k => y (ix2 r k)) (fun k => bo (ix2 r k)) (fun k => g (ix2 r k)) (fun k => gn (ix2 0 k)) n := by
  have e : k0_pay8 (F := Ideal) (k0_pay6 k0_pay2 k0_pay3 k0_pay4 k0_pay5 y gn bo) (k0_pay7 g) (ix2 r n)
      = k0_pay6 (F := Ideal) k0_pay2 k0_pay3 k0_pay4 k0_pay5 y gn bo (ix2 r n) * g (ix2 r n) := by
    generalize k0_pay6 (F := Ideal) k0_pay2 k0_pay3 k0_pay4 k0_pay5 y gn bo = p
    pointwise [k0_pay8, k0_pay7]
  rw [e, pay6_at _ _ _ _ ones_at y gn bo r n hy]
  rfl

/-- What a step stores, for rows of real numbers. -/
theorem step_at (ml sc mb y bo g : Vec Ideal S256x256 .f32) (gn : Vec Ideal S1x256 .f32) (z0 z1 z2 z3 x : Vec Ideal S256x1024 .f32)
    (gt : Vec Ideal S1x1x1024 .f32) (p0 p1 p2 p3 : Vec Ideal S256x1024 .bf16) (wo : Vec Ideal S1024x1024 .bf16) (r : Fin 256) (n : Fin 1024)
    (hy : ∀ k, ∃ a : ℝ, y (ix2 r k) = (a : EReal)) :
    k0_pay1 (F := Ideal) (k0_pay11 x) (k0_pay12 gt) (k0_pay13 (k0_pay8 (k0_pay6 k0_pay2 k0_pay3 k0_pay4 k0_pay5 y gn bo) (k0_pay7 g))
      (k0_pay9 ml sc p0 z0 p1 z1) (k0_pay10 mb) p2 z2 p3 z3 wo) (ix2 r n)
    = x (ix2 r n) + gt (ix3 0 0 n) * ∑ d : Fin 1024,
      (sgm (z0 (ix2 r d)) * (∑ k : Fin 256, ml (ix2 r k) * p0 (ix2 k d)) + sgm (z1 (ix2 r d)) * (∑ k : Fin 256, sc (ix2 r k) * p1 (ix2 k d))
        + sgm (z2 (ix2 r d)) * (∑ k : Fin 256, mb (ix2 r k) * p2 (ix2 k d))
        + sgm (z3 (ix2 r d)) * (∑ k : Fin 256, branch (fun k => y (ix2 r k)) (fun k => bo (ix2 r k)) (fun k => g (ix2 r k)) (fun k => gn (ix2 0 k)) k
            * p3 (ix2 k d))) * wo (ix2 d n) := by
  rw [pay1_at, pay13_at]
  simp only [pay9_at, pay8_at y gn bo g r _ hy]

end Kernel

end Cert.Merge
-- ==== Proof.MergeFinal.lean ====
/- The merge of the branches: the blocks a step reads and stores, and the array after the run. -/
module

public import proofs.«01_k».proof.Proof.MergeRows
public import proofs.«01_k».proof.Pre_finite_scan

@[expose] public section

set_option maxRecDepth 16384

noncomputable section

namespace Cert.Merge

open Idealize.ShloMosaic Idealize.ShloMosaic.TcCoe Idealize.SL.Sem
open Cert.Heads (hsum)
open Cert.Mlstm (sgm)
open Cert.MergeKernelIdeal Cert.MergeKernelIdeal.Gen

/-- A value below +∞ in absolute value is a real number. -/
theorem real_of_abs (x : EReal) (h : max x (-x) < ⊤) : ∃ a : ℝ, x = (a : EReal) := by
  induction x using EReal.rec with
  | bot => simp at h
  | top => simp at h
  | coe x => exact ⟨x, rfl⟩

/-- Where every element of the recurrence's output is finite, every element is a real number. -/
theorem real_of_finite [Cert.Pre_finite_scan.Facts] (ml sc mb : FVec Ideal S8x2048x256 .f32) (y : FVec Ideal S8x2048x4x64 .f32) (bo g : FVec Ideal S8x2048x256 .f32)
    (gn : FVec Ideal S256 .f32) (z : FVec Ideal S8x2048x7560 .f32) (x : FVec Ideal S8x2048x1024 .f32) (mod : FVec Ideal S40x6144 .f32)
    (p0 p1 p2 p3 : FVec Ideal S256x1024 .f32) (wo : FVec Ideal S1024x1024 .f32)
    (h : Cert.Pre_finite_scan.fn (F := Ideal) ml sc mb y bo g gn z x mod p0 p1 p2 p3 wo = fun _ => 1#1)
    (i : S8x2048x4x64.Idx) : ∃ a : ℝ, y i = (a : EReal) := by
  have h1 := congrFun h i
  unfold Cert.Pre_finite_scan.fn at h1
  have e : Ideal.ofBits .f32 0x7F800000#32 = ⊤ := by simp [Ideal.ofBits, Ideal.ieee]
  have h2 : (BitVec.ofBool (decide (max (y i) (-(y i)) < Ideal.ofBits .f32 0x7F800000#32))) = 1#1 := h1
  rw [e] at h2
  by_cases h3 : max (y i) (-(y i)) < ⊤
  · exact real_of_abs _ h3
  · rw [decide_eq_false h3] at h2
    exact absurd h2 (by decide)

/-- The block of each window at each step. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![0, 0] ∧
    win0_7.index t = ![t.val, 0] ∧ win0_8.index t = ![t.val, 0] ∧ win0_9.index t = ![t.val / 8, 0, 0] ∧ win0_10.index t = ![0, 0] ∧
    win0_11.index t = ![0, 0] ∧ win0_12.index t = ![0, 0] ∧ win0_13.index t = ![0, 0] ∧ win0_14.index t = ![0, 0] ∧
    win0_15.index t = ![t.val, 0] ∧ t.val < 64 :=
  (by decide +kernel : ∀ t : Fin grid0.N, _)

/-- There are 64 steps. -/
theorem lt64 (t : Fin cfg0.N) : t.val < 64 := (idx t).2.2.2.2.2.2.2.2.2.2.2.2.2.2.2.2

/-- The sequence of a step's row. -/
def seq (t : Fin cfg0.N) (r : Fin 256) : Fin 8 := ⟨(t.val * 256 + r) / 2048, by have := lt64 t; omega⟩

/-- The position of a step's row in its sequence. -/
def pos (t : Fin cfg0.N) (r : Fin 256) : Fin 2048 := ⟨(t.val * 256 + r) % 2048, by omega⟩

variable (m : (ℓ : Loc nD τ sig) → Buf (Elt Ideal) ℓ) (c : Dev nD)

/-- The mLSTM branch's rows a step reads. -/
theorem ml_at (t : Fin cfg0.N) (r k : Fin 256) :
    iblk m c 0 t (ix2 r k) = m ((c : Thread nD τ).loc main_arg0) (ix3 (seq t r) (pos t r) k) := by
  blk_simp [iblk]
  entry_read
  pointwise []
  blk_ext [idx t, seq, pos]

/-- The convolution branch's rows a step reads. -/
theorem sc_at (t : Fin cfg0.N) (r k : Fin 256) :
    iblk m c 1 t (ix2 r k) = m ((c : Thread nD τ).loc main_arg1) (ix3 (seq t r) (pos t r) k) := by
  blk_simp [iblk]
  entry_read
  pointwise []
  blk_ext [idx t, seq, pos]

/-- The attention branch's rows a step reads. -/
theorem mb_at (t : Fin cfg0.N) (r k : Fin 256) :
    iblk m c 2 t (ix2 r k) = m ((c : Thread nD τ).loc main_arg2) (ix3 (seq t r) (pos t r) k) := by
  blk_simp [iblk]
  entry_read
  pointwise []
  blk_ext [idx t, seq, pos]

/-- The recurrence's rows a step reads. -/
theorem y_at (t : Fin cfg0.N) (r k : Fin 256) :
    iblk m c 3 t (ix2 r k) = yrow (m ((c : Thread nD τ).loc main_arg3)) (seq t r) (pos t r) k := by
  unfold yrow
  blk_simp [iblk]
  entry_read
  pointwise []
  blk_ext [idx t, seq, pos]

/-- The bonus rows a step reads. -/
theorem bo_at (t : Fin cfg0.N) (r k : Fin 256) :
    iblk m c 4 t (ix2 r k) = m ((c : Thread nD τ).loc main_arg4) (ix3 (seq t r) (pos t r) k) := by
  blk_simp [iblk]
  entry_read
  pointwise []
  blk_ext [idx t, seq, pos]

/-- The branch gate's rows a step reads. -/
theorem g_at (t : Fin cfg0.N) (r k : Fin 256) :
    iblk m c 5 t (ix2 r k) = m ((c : Thread nD τ).loc main_arg5) (ix3 (seq t r) (pos t r) k) := by
  blk_simp [iblk]
  entry_read
  pointwise []
  blk_ext [idx t, seq, pos]

/-- The norm's weights a step reads. -/
theorem gn_at (t : Fin cfg0.N) (k : Fin 256) :
    iblk m c 6 t (ix2 0 k) = m ((c : Thread nD τ).loc main_arg6) (ix1 k) := by
  blk_simp [iblk]
  entry_read
  pointwise []
  blk_ext [idx t]

/-- The stream's rows a step reads. -/
theorem x_at (t : Fin cfg0.N) (r : Fin 256) (n : Fin 1024) :
    iblk m c 8 t (ix2 r n) = m ((c : Thread nD τ).loc main_arg8) (ix3 (seq t r) (pos t r) n) := by
  blk_simp [iblk]
  entry_read
  pointwise []
  blk_ext [idx t, seq, pos]

/-- The sequence's gate a step reads. -/
theorem gt_at (t : Fin cfg0.N) (r : Fin 256) (n : Fin 1024) :
    iblk m c 9 t (ix3 0 0 n) = m ((c : Thread nD τ).loc main_arg9) (ix2 ⟨seq t r, by omega⟩ ⟨2048 + n, by omega⟩) := by
  blk_simp [iblk]
  entry_read
  pointwise []
  blk_ext [idx t, seq]

/-- The mLSTM branch's weights a step reads. -/
theorem p0_at (t : Fin cfg0.N) (k : Fin 256) (n : Fin 1024) :
    iblk m c 10 t (ix2 k n) = m ((c : Thread nD τ).loc main_arg10) (ix2 k n) := by
  blk_simp [iblk]
  entry_read
  pointwise []
  blk_ext [idx t]

/-- The convolution branch's weights a step reads. -/
theorem p1_at (t : Fin cfg0.N) (k : Fin 256) (n : Fin 1024) :
    iblk m c 11 t (ix2 k n) = m ((c : Thread nD τ).loc main_arg11) (ix2 k n) := by
  blk_simp [iblk]
  entry_read
  pointwise []
  blk_ext [idx t]

/-- The attention branch's weights a step reads. -/
theorem p2_at (t : Fin cfg0.N) (k : Fin 256) (n : Fin 1024) :
    iblk m c 12 t (ix2 k n) = m ((c : Thread nD τ).loc main_arg12) (ix2 k n) := by
  blk_simp [iblk]
  entry_read
  pointwise []
  blk_ext [idx t]

/-- The recurrence branch's weights a step reads. -/
theorem p3_at (t : Fin cfg0.N) (k : Fin 256) (n : Fin 1024) :
    iblk m c 13 t (ix2 k n) = m ((c : Thread nD τ).loc main_arg13) (ix2 k n) := by
  blk_simp [iblk]
  entry_read
  pointwise []
  blk_ext [idx t]

/-- The output weights a step reads. -/
theorem wo_at (t : Fin cfg0.N) (k n : Fin 1024) :
    iblk m c 14 t (ix2 k n) = m ((c : Thread nD τ).loc main_arg14) (ix2 k n) := by
  blk_simp [iblk]
  entry_read
  pointwise []
  blk_ext [idx t]

/-- The first operand of the joined columns. -/
theorem cat_first (a : FVec Ideal S8x2048x4096 .f32) (b : FVec Ideal S8x2048x896 .f32) (c : FVec Ideal S8x2048x8 .f32)
    (d : FVec Ideal S8x2048x120 .f32) (e : FVec Ideal S8x2048x1024 .f32) (f g : FVec Ideal S8x2048x768 .f32) (B : Fin 8) (s : Fin 2048) (x : Fin 4096) :
    concatenate S8x2048x7680 2 [⟨S8x2048x4096, a⟩, ⟨S8x2048x896, b⟩, ⟨S8x2048x8, c⟩, ⟨S8x2048x120, d⟩, ⟨S8x2048x1024, e⟩, ⟨S8x2048x768, f⟩, ⟨S8x2048x768, g⟩]
      concatenates_S8x2048x4096_S8x2048x896_S8x2048x8_S8x2048x120_S8x2048x1024_S8x2048x768_S8x2048x768_S8x2048x7680_d2 (ix3 B s ⟨x, by omega⟩) = a (ix3 B s x) := by
  pointwise []

/-- The joined columns after the operation, read in the first of its operands. -/
theorem cat_first_op (h1 h2) (F : Valuation τ sig (Elt Ideal)) (B : Fin 8) (s : Fin 2048) (x : Fin 4096) :
    (StableHlo.nary (τ := τ) ![main_v0, main_v1, main_v2, main_v3, main_v4, main_v5, main_v6] main_v7
      (fun u => concatenate S8x2048x7680 2
        [⟨S8x2048x4096, u 0⟩, ⟨S8x2048x896, u 1⟩, ⟨S8x2048x8, u 2⟩, ⟨S8x2048x120, u 3⟩, ⟨S8x2048x1024, u 4⟩, ⟨S8x2048x768, u 5⟩, ⟨S8x2048x768, u 6⟩]
        concatenates_S8x2048x4096_S8x2048x896_S8x2048x8_S8x2048x120_S8x2048x1024_S8x2048x768_S8x2048x768_S8x2048x7680_d2) h1 h2).result F
      (Proc.devRef .tc main_v7) (ix3 B s ⟨x, by omega⟩) = F (Proc.devRef .tc main_v0) (ix3 B s x) := by
  rw [StableHlo.nary_result]
  exact cat_first _ _ _ _ _ _ _ B s x

/-- The joined columns that hold the branches' gates are columns of the projected rows. -/
theorem V19_at (r : Fin 16384) (x : Fin 4096) :
    V m c main_v19 (ix2 r ⟨x, by omega⟩) = m ((c : Thread nD τ).loc main_arg7) (ix3 ⟨r / 2048, by omega⟩ ⟨r % 2048, by omega⟩ ⟨3464 + x, by omega⟩) := by
  show StableHlo.after hostOps0 _ _ _ = _
  simp only [StableHlo.after_cons, StableHlo.after_nil]
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  rw [StableHlo.reshape_result]
  pointwise []
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  refine (cat_first_op _ _ _ ⟨r / 2048, by omega⟩ ⟨r % 2048, by omega⟩ x).trans ?_
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  rw [StableHlo.unary_result]
  pointwise []
  try rfl

/-- The branches' gates a step reads. -/
theorem z_at (t : Fin cfg0.N) (r : Fin 256) (x : Fin 4096) :
    X0_7 m c t (ix2 r x) = m ((c : Thread nD τ).loc main_arg7) (ix3 (seq t r) (pos t r) ⟨3464 + x, by omega⟩) := by
  refine Eq.trans ?_ (V19_at m c ⟨t.val * 256 + r, by have := lt64 t; omega⟩ x)
  unfold X0_7 Pipeline.Window.fill
  rw [dif_pos (moved0_7 t _)]
  blk_ext [iblk, idx t]

/-- The first group of a step's gates. -/
theorem ld0 (z : Vec Ideal S256x4096 .f32) (r : Fin 256) (d : Fin 1024) :
    View.ld (Val := Elt Ideal) (e' := .f32) z (Rect.unit (s := S256x4096) ![0, 0] ![256, 1024] inb_S256x4096_S256x1024_0_0) (ix2 r d) = z (ix2 r ⟨d, by omega⟩) := by
  pointwise []

/-- The second group of a step's gates. -/
theorem ld1 (z : Vec Ideal S256x4096 .f32) (r : Fin 256) (d : Fin 1024) :
    View.ld (Val := Elt Ideal) (e' := .f32) z (Rect.unit (s := S256x4096) ![0, 1024] ![256, 1024] inb_S256x4096_S256x1024_0_1024) (ix2 r d)
      = z (ix2 r ⟨1024 + d, by omega⟩) := by
  pointwise []

/-- The third group of a step's gates. -/
theorem ld2 (z : Vec Ideal S256x4096 .f32) (r : Fin 256) (d : Fin 1024) :
    View.ld (Val := Elt Ideal) (e' := .f32) z (Rect.unit (s := S256x4096) ![0, 2048] ![256, 1024] inb_S256x4096_S256x1024_0_2048) (ix2 r d)
      = z (ix2 r ⟨2048 + d, by omega⟩) := by
  pointwise []

/-- The fourth group of a step's gates. -/
theorem ld3 (z : Vec Ideal S256x4096 .f32) (r : Fin 256) (d : Fin 1024) :
    View.ld (Val := Elt Ideal) (e' := .f32) z (Rect.unit (s := S256x4096) ![0, 3072] ![256, 1024] inb_S256x4096_S256x1024_0_3072) (ix2 r d)
      = z (ix2 r ⟨3072 + d, by omega⟩) := by
  pointwise []

/-- What a step stores, at an index of its block. -/
theorem out_at (t : Fin cfg0.N) (r : Fin 256) (n : Fin 1024) (hy : ∀ i, ∃ a : ℝ, m ((c : Thread nD τ).loc main_arg3) i = (a : EReal)) :
    outsAt0 m c t (ix2 r n)
    = elt (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) (m ((c : Thread nD τ).loc main_arg13))
      (m ((c : Thread nD τ).loc main_arg14)) (seq t r) (pos t r) n := by
  unfold outsAt0
  frame_out
  rw [step_at _ _ _ _ _ _ _ _ _ _ _ _ _ _ _ _ _ _ r n (fun k => ?_)]
  · unfold elt merged
    rw [x_at, gt_at m c t r]
    refine congrArg₂ (· + ·) rfl (congrArg₂ (· * ·) rfl (Finset.sum_congr rfl fun d _ => congrArg₂ (· * ·) ?_ (wo_at m c t d n)))
    have hr : branch (fun k => iblk m c 3 t (ix2 r k)) (fun k => iblk m c 4 t (ix2 r k)) (fun k => iblk m c 5 t (ix2 r k)) (fun k => iblk m c 6 t (ix2 0 k))
        = branch (yrow (m ((c : Thread nD τ).loc main_arg3)) (seq t r) (pos t r)) (fun k => m ((c : Thread nD τ).loc main_arg4) (ix3 (seq t r) (pos t r) k))
          (fun k => m ((c : Thread nD τ).loc main_arg5) (ix3 (seq t r) (pos t r) k)) (fun k => m ((c : Thread nD τ).loc main_arg6) (ix1 k)) := by
      rw [show (fun k => iblk m c 3 t (ix2 r k)) = yrow (m ((c : Thread nD τ).loc main_arg3)) (seq t r) (pos t r) from funext fun k => y_at m c t r k,
        show (fun k => iblk m c 4 t (ix2 r k)) = fun k => m ((c : Thread nD τ).loc main_arg4) (ix3 (seq t r) (pos t r) k) from funext fun k => bo_at m c t r k,
        show (fun k => iblk m c 5 t (ix2 r k)) = fun k => m ((c : Thread nD τ).loc main_arg5) (ix3 (seq t r) (pos t r) k) from funext fun k => g_at m c t r k,
        show (fun k => iblk m c 6 t (ix2 0 k)) = fun k => m ((c : Thread nD τ).loc main_arg6) (ix1 k) from funext fun k => gn_at m c t k]
    refine congrArg₂ (· + ·) (congrArg₂ (· + ·) (congrArg₂ (· + ·) ?_ ?_) ?_) ?_
    · exact congrArg₂ (· * ·) (congrArg sgm ((ld0 _ r d).trans (z_at m c t r _)))
        (Finset.sum_congr rfl fun k _ => congrArg₂ (· * ·) (ml_at m c t r k) (p0_at m c t k d))
    · exact congrArg₂ (· * ·) (congrArg sgm ((ld1 _ r d).trans (z_at m c t r _)))
        (Finset.sum_congr rfl fun k _ => congrArg₂ (· * ·) (sc_at m c t r k) (p1_at m c t k d))
    · exact congrArg₂ (· * ·) (congrArg sgm ((ld2 _ r d).trans (z_at m c t r _)))
        (Finset.sum_congr rfl fun k _ => congrArg₂ (· * ·) (mb_at m c t r k) (p2_at m c t k d))
    · exact congrArg₂ (· * ·) (congrArg sgm ((ld3 _ r d).trans (z_at m c t r _)))
        (Finset.sum_congr rfl fun k _ => congrArg₂ (· * ·) (congrFun hr k) (p3_at m c t k d))
  · rw [y_at]
    exact hy _

/-- The result. -/
def out (ml sc mb : FVec Ideal S8x2048x256 .f32) (y : FVec Ideal S8x2048x4x64 .f32) (bo g : FVec Ideal S8x2048x256 .f32)
    (gn : FVec Ideal S256 .f32) (z : FVec Ideal S8x2048x7560 .f32) (x : FVec Ideal S8x2048x1024 .f32) (mod : FVec Ideal S40x6144 .f32)
    (p0 p1 p2 p3 : FVec Ideal S256x1024 .f32) (wo : FVec Ideal S1024x1024 .f32) : FVec Ideal S16384x1024 .f32 :=
  fun i => elt ml sc mb y bo g gn z x mod p0 p1 p2 p3 wo ⟨(i 0).val / 2048, by have h : (i 0).val < 16384 := (i 0).isLt; omega⟩ ⟨(i 0).val % 2048, by omega⟩ (i 1)

/-- The array after the run, for a recurrence's output of real numbers. -/
theorem final (hy : ∀ i, ∃ a : ℝ, m ((c : Thread nD τ).loc main_arg3) i = (a : EReal)) : (dats m 0 c).arrAt 15 cfg0.N = out
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) := by
  refine (dats m 0 c).arrAt_eq_of_covers 15 _ (by decide +kernel) fun t _ y => ?_
  blk_simp
  rw [after0_15]
  idx_vars y
  rw [out_at m c t _ _ hy]
  refine Eq.trans (b := out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (ix2 ⟨t.val * 256 + y0, by have := lt64 t; omega⟩ y1)) rfl ?_
  blk_ext [idx t]

/-- The reference's result of the same arguments is the array after the run, for a recurrence's output of real numbers. -/
theorem same (hy : ∀ i, ∃ a : ℝ, m ((c : Thread nD τ).loc main_arg3) i = (a : EReal)) : Cert.MergeReferenceIdeal.Read.val_main_v61 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) = (dats m 0 c).arrAt 15 cfg0.N := by
  rw [final m c hy]
  funext y
  idx_vars y
  exact ref_at _ _ _ _ _ _ _ _ _ _ _ _ _ _ _ y0 y1

end Cert.Merge
-- ==== Proof.MergeClaim.lean ====
/- The merge of the branches' certificate: the frames, and that the kernel computes the reference's result where the recurrence's output is finite. -/
module

public import proofs.«01_k».proof.Defs
public import proofs.«01_k».proof.Proof.MergeFinal
public import proofs.«01_k».proof.Proof.Gen.MergeKernel.Frame

@[expose] public section

set_option maxRecDepth 16384
set_option maxHeartbeats 1600000

noncomputable section

namespace Cert.Merge

open Idealize.ShloMosaic Idealize.ShloMosaic.TcCoe Idealize.SL.Sem

section
open Cert.MergeReferenceIdeal Cert.MergeReferenceIdeal.Gen Cert.MergeReferenceIdeal.Read

/-- Every run of the reference ends with its result at its stage and its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = val_main_v61 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13))
        (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (val_main_v61_eq _ _), (h c).2⟩)
    (Cert.MergeReferenceIdeal.Value.run m ρ)

end

/-- The kernel's frame. -/
theorem frame_kernel : Cert.quiescent_MergeKernel := fun m ρ _ => Cert.MergeKernel.Gen.frame m ρ

/-- The idealized kernel's frame. -/
theorem frame_ideal : Cert.quiescent_MergeKernelIdeal := fun m ρ _ => Cert.MergeKernelIdeal.Gen.frame m ρ

/-- The reference's frame. -/
theorem frame_reference : Cert.quiescent_MergeReferenceIdeal := fun m ρ _ =>
  (θ_run Cert.MergeReferenceIdeal.defs _ _).mono (fun r h => ⟨fun c => (h c).2, sem_eq_zero_of_no_sems (by decide) r.2⟩)
    (run_ref m ρ)

/-- The condition's operation broadcasts a scalar. -/
theorem facts_pre : Cert.Pre_finite_scan.Facts := ⟨by decide⟩

/-- The idealized kernel's frame where the recurrence's output is finite. -/
theorem frame_ideal_finite : Cert.quiescent_MergeKernelIdeal_pre_finite_scan (hPre_finite_scan := facts_pre) :=
  fun m ρ _ => Cert.MergeKernelIdeal.Gen.frame m ρ

/-- The reference's frame where the recurrence's output is finite. -/
theorem frame_reference_finite : Cert.quiescent_MergeReferenceIdeal_pre_finite_scan (hPre_finite_scan := facts_pre) := fun m ρ _ =>
  (θ_run Cert.MergeReferenceIdeal.defs _ _).mono (fun r h => ⟨fun c => (h c).2, sem_eq_zero_of_no_sems (by decide) r.2⟩)
    (run_ref m ρ)

/-- The idealized kernel and the reference end with the same result where the recurrence's output is finite. -/
theorem algebraic : Cert.algebraic_MergeKernelIdeal_MergeReferenceIdeal_pre_finite_scan (hPre_finite_scan := facts_pre) := by
  haveI := facts_pre
  pair_intro
  · run_from Cert.MergeKernelIdeal.Gen.run_main m g
  · refine (θ_run Cert.MergeReferenceIdeal.defs _ _).mono (fun r h c => ?_) (run_ref m' g')
    obtain ⟨e, k⟩ := h c
    obtain ⟨a0, a1, a2, a3, a4, a5, a6, a7, a8, a9, a10, a11, a12, a13, a14⟩ := hagree c
    refine ⟨e.trans ?_, k⟩
    rw [a0, a1, a2, a3, a4, a5, a6, a7, a8, a9, a10, a11, a12, a13, a14]
    exact same m c (real_of_finite _ _ _ _ _ _ _ _ _ _ _ _ _ _ _ (hpre c))

end Cert.Merge

end
-- ==== Proof.ResFinal.lean ====
/- The residual product: each row of the result is the stream's row plus the gate times the row's product with the weights. -/
module

public import proofs.«01_k».proof.Proof.Gen.ResKernelIdeal.Value
public import proofs.«01_k».proof.Proof.Gen.ResReferenceIdeal.Run
public import proofs.«01_k».proof.Proof.Gen.ResReferenceIdeal.Read
public import Idealize.ShloMosaic.Lib.Pipeline.Value
public import Idealize.ShloMosaic.Lib.Pipeline.ValueKit
public import Idealize.ShloMosaic.Lib.Tactic
public import Idealize.ShloMosaic.Lib.Claim
public import Idealize.ShloMosaic.Lib.Pointwise

@[expose] public section

set_option maxRecDepth 16384

noncomputable section

namespace Cert.Res

open Idealize.ShloMosaic Idealize.ShloMosaic.TcCoe Idealize.SL.Sem

/-- One element of the result: the stream's element plus the sequence's gate times the row's product with the column. -/
def elt (act : FVec Ideal Cert.ResKernelIdeal.S16384x2816 .bf16) (w : FVec Ideal Cert.ResKernelIdeal.S2816x1024 .f32)
    (x : FVec Ideal Cert.ResKernelIdeal.S16384x1024 .f32) (mod : FVec Ideal Cert.ResKernelIdeal.S40x6144 .f32)
    (r : Fin 16384) (n : Fin 1024) : EReal :=
  x (ix2 r n) + mod (ix2 ⟨r / 2048, by omega⟩ ⟨5120 + n, by omega⟩) * ∑ k : Fin 2816, act (ix2 r k) * w (ix2 k n)

section Reference
open Cert.ResReferenceIdeal Cert.ResReferenceIdeal.Read

/-- The reference's result at an index. -/
theorem ref_at (act : FVec Ideal S16384x2816 .bf16) (w : FVec Ideal S2816x1024 .f32)
    (x : FVec Ideal S16384x1024 .f32) (mod : FVec Ideal S40x6144 .f32) (r : Fin 16384) (n : Fin 1024) :
    val_main_v15 (F := Ideal) act w x mod (ix2 r n) = elt act w x mod r n := by
  pointwise [val_main_v15, val_main_v14, val_main_v13, val_main_v12, val_main_v11, val_main_v10, val_main_v9, val_main_v8, val_main_v7, val_main_v1, val_main_v0, elt]

end Reference

section Kernel
open Cert.ResKernelIdeal Cert.ResKernelIdeal.Gen

variable (m : (ℓ : Loc nD τ sig) → Buf (Elt Ideal) ℓ) (c : Dev nD)

/-- The block of each window at each step. -/
theorem idx : ∀ t : Fin cfg0.N, win0_0.index t = ![t.val, 0] ∧ win0_1.index t = ![0, 0] ∧ win0_2.index t = ![t.val, 0] ∧
    win0_3.index t = ![t.val / 4, 0, 0] ∧ win0_4.index t = ![t.val, 0] ∧ t.val < 32 :=
  (by decide +kernel : ∀ t : Fin grid0.N, _)

/-- What a step stores, at an index of its block. -/
theorem pay_at (x : Vec Ideal S512x1024 .f32) (gt : Vec Ideal S1x1x1024 .f32) (a : Vec Ideal S512x2816 .bf16) (w : Vec Ideal S2816x1024 .bf16)
    (r : Fin 512) (n : Fin 1024) : k0_pay1 (F := Ideal) x gt a w (ix2 r n)
    = x (ix2 r n) + gt (ix3 0 0 n) * ∑ k : Fin 2816, a (ix2 r k) * w (ix2 k n) := by
  pointwise [k0_pay1]

/-- The weights a step reads. -/
theorem w_at (t : Fin cfg0.N) (k : Fin 2816) (n : Fin 1024) :
    iblk m c 1 t (ix2 k n) = m ((c : Thread nD τ).loc main_arg1) (ix2 k n) := by
  blk_simp [iblk]
  entry_read
  pointwise []
  blk_ext [idx t]

/-- The gate a step reads. -/
theorem gt_at (t : Fin cfg0.N) (n : Fin 1024) :
    iblk m c 3 t (ix3 0 0 n) = m ((c : Thread nD τ).loc main_arg3) (ix2 ⟨t.val / 4, by have := (idx t).2.2.2.2.2; omega⟩ ⟨5120 + n, by omega⟩) := by
  blk_simp [iblk]
  entry_read
  pointwise []
  blk_ext [idx t]

/-- The array after the run. -/
theorem final : (dats m 0 c).arrAt 4 cfg0.N = fun y => elt (m ((c : Thread nD τ).loc main_arg0)) (m ((c : Thread nD τ).loc main_arg1))
    (m ((c : Thread nD τ).loc main_arg2)) (m ((c : Thread nD τ).loc main_arg3)) (y 0) (y 1) := by
  refine (dats m 0 c).arrAt_eq_of_covers 4 _ (by decide +kernel) fun t _ y => ?_
  blk_simp
  rw [after0_4]
  frame_out
  idx_vars y
  rw [pay_at]
  simp only [w_at, gt_at, elt]
  blk_point [iblk, V_main_arg0, V_main_arg2, idx t]

/-- The reference's result of the same arguments is the array after the run. -/
theorem same : Cert.ResReferenceIdeal.Read.val_main_v15 (F := Ideal) (m ((c : Thread nD τ).loc main_arg0)) (m ((c : Thread nD τ).loc main_arg1))
    (m ((c : Thread nD τ).loc main_arg2)) (m ((c : Thread nD τ).loc main_arg3)) = (dats m 0 c).arrAt 4 cfg0.N := by
  rw [final]
  funext y
  idx_vars y
  exact ref_at _ _ _ _ y0 y1

end Kernel

end Cert.Res
-- ==== Proof.ResClaim.lean ====
/- The residual product's certificate: the frames, and that the kernel computes the reference's result. -/
module

public import proofs.«01_k».proof.Defs
public import proofs.«01_k».proof.Proof.ResFinal
public import proofs.«01_k».proof.Proof.Gen.ResKernel.Frame

@[expose] public section

set_option maxRecDepth 16384
set_option maxHeartbeats 1600000

noncomputable section

namespace Cert.Res

open Idealize.ShloMosaic Idealize.ShloMosaic.TcCoe Idealize.SL.Sem

section
open Cert.ResReferenceIdeal Cert.ResReferenceIdeal.Gen Cert.ResReferenceIdeal.Read

/-- Every run of the reference ends with its result at the last stage and its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = val_main_v15 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v15_eq _ _ _ _), (h c).2⟩)
    (Cert.ResReferenceIdeal.Value.run m ρ)

end

/-- The kernel's frame. -/
theorem frame_kernel : Cert.quiescent_ResKernel := fun m ρ _ => Cert.ResKernel.Gen.frame m ρ

/-- The idealized kernel's frame. -/
theorem frame_ideal : Cert.quiescent_ResKernelIdeal := fun m ρ _ => Cert.ResKernelIdeal.Gen.frame m ρ

/-- The reference's frame. -/
theorem frame_reference : Cert.quiescent_ResReferenceIdeal := fun m ρ _ =>
  (θ_run Cert.ResReferenceIdeal.defs _ _).mono (fun r h => ⟨fun c => (h c).2, sem_eq_zero_of_no_sems (by decide) r.2⟩)
    (run_ref m ρ)

/-- The idealized kernel and the reference end with the same result. -/
theorem algebraic : Cert.algebraic_ResKernelIdeal_ResReferenceIdeal := by
  pair_intro
  · run_from Cert.ResKernelIdeal.Gen.run_main m g
  · refine (θ_run Cert.ResReferenceIdeal.defs _ _).mono (fun r h c => ?_) (run_ref m' g')
    obtain ⟨e, k⟩ := h c
    obtain ⟨a0, a1, a2, a3⟩ := hagree c
    refine ⟨e.trans ?_, k⟩
    rw [a0, a1, a2, a3]
    exact same m c

end Cert.Res

end
-- ==== Proof.Norm.lean ====
/- The norm of a row followed by its sequence's scale and shift, as a formula over the extended reals. -/
module

public import Idealize.ShloMosaic.Lib.Pointwise

@[expose] public section

noncomputable section

namespace Cert.Norm

open Idealize.ShloMosaic

/-- One element of a row after the norm, the scale and the shift. -/
def normed (x : Fin 1024 → EReal) (g sc sh : EReal) (k : Fin 1024) : EReal :=
  x k * Ideal.rsqrt (Ideal.div (∑ j, x j * x j) (Ideal.ofBits FTy.f32 0x44800000#32) + Ideal.ofBits FTy.f32 0x358637BD#32) * g *
    (1 + sc) + sh

end Cert.Norm
-- ==== Proof.ProjFinal.lean ====
/- The in-projection: each row is normed, scaled and shifted, then multiplied with the weights' columns in their joined order. -/
module

public import proofs.«01_k».proof.Proof.Norm
public import proofs.«01_k».proof.Proof.Gen.ProjKernelIdeal.Value
public import proofs.«01_k».proof.Proof.Gen.ProjReferenceIdeal.Run
public import proofs.«01_k».proof.Proof.Gen.ProjReferenceIdeal.Read
public import Idealize.ShloMosaic.Lib.Pipeline.Value
public import Idealize.ShloMosaic.Lib.Pipeline.ValueKit
public import Idealize.ShloMosaic.Lib.Pipeline.ReadBack
public import Idealize.ShloMosaic.Lib.Tactic
public import Idealize.ShloMosaic.Lib.Claim
public import Idealize.ShloMosaic.Lib.Pointwise

@[expose] public section

set_option maxRecDepth 16384

noncomputable section

namespace Cert.Proj

open Idealize.ShloMosaic Idealize.ShloMosaic.TcCoe Idealize.SL.Sem
open Cert.Norm (normed)

/-- The value at a column of seven groups of columns laid side by side. -/
def join {α : Type} (a : Fin 4096 → α) (b : Fin 896 → α) (c : Fin 8 → α) (d : Fin 120 → α) (e : Fin 1024 → α) (f g : Fin 768 → α)
    (n : Fin 7680) : α :=
  if h1 : n.val < 4096 then a ⟨n.val, h1⟩
  else if h2 : n.val - 4096 < 896 then b ⟨n.val - 4096, h2⟩
  else if h3 : n.val - 4096 - 896 < 8 then c ⟨n.val - 4096 - 896, h3⟩
  else if h4 : n.val - 4096 - 896 - 8 < 120 then d ⟨n.val - 4096 - 896 - 8, h4⟩
  else if h5 : n.val - 4096 - 896 - 8 - 120 < 1024 then e ⟨n.val - 4096 - 896 - 8 - 120, h5⟩
  else if h6 : n.val - 4096 - 896 - 8 - 120 - 1024 < 768 then f ⟨n.val - 4096 - 896 - 8 - 120 - 1024, h6⟩
  else g ⟨n.val - 4096 - 896 - 8 - 120 - 1024 - 768, by omega⟩

/-- Joins of equal groups are equal. -/
theorem join_congr {α : Type} {a a' : Fin 4096 → α} {b b' : Fin 896 → α} {c c' : Fin 8 → α} {d d' : Fin 120 → α} {e e' : Fin 1024 → α}
    {f f' g g' : Fin 768 → α} (ha : ∀ x, a x = a' x) (hb : ∀ x, b x = b' x) (hc : ∀ x, c x = c' x) (hd : ∀ x, d x = d' x)
    (he : ∀ x, e x = e' x) (hf : ∀ x, f x = f' x) (hg : ∀ x, g x = g' x) (n : Fin 7680) :
    join a b c d e f g n = join a' b' c' d' e' f' g' n := by
  rw [funext ha, funext hb, funext hc, funext hd, funext he, funext hf, funext hg]

/-- The joined order of the columns of a row of 7560, with zeros between. -/
def cols (w : Fin 7560 → EReal) (n : Fin 7680) : EReal :=
  join (fun x => w ⟨3464 + x, by omega⟩) (fun x => w ⟨2568 + x, by omega⟩) (fun x => w ⟨1024 + x, by omega⟩) (fun _ => 0)
    (fun x => w ⟨x, by omega⟩) (fun x => w ⟨1032 + x, by omega⟩) (fun x => w ⟨1800 + x, by omega⟩) n

/-- The element of the normed rows at row `r` of all sequences' rows. -/
def row (x : FVec Ideal Cert.ProjKernelIdeal.S8x2048x1024 .f32) (g : FVec Ideal Cert.ProjKernelIdeal.S1024 .f32)
    (mod : FVec Ideal Cert.ProjKernelIdeal.S40x6144 .f32) (r : Fin 16384) (k : Fin 1024) : EReal :=
  normed (fun j => x (ix3 ⟨r / 2048, by omega⟩ ⟨r % 2048, by omega⟩ j)) (g (ix1 k)) (mod (ix2 ⟨r / 2048, by omega⟩ ⟨1024 + k, by omega⟩))
    (mod (ix2 ⟨r / 2048, by omega⟩ ⟨k, by omega⟩)) k

/-- One element of the result. -/
def elt (x : FVec Ideal Cert.ProjKernelIdeal.S8x2048x1024 .f32) (g : FVec Ideal Cert.ProjKernelIdeal.S1024 .f32)
    (mod : FVec Ideal Cert.ProjKernelIdeal.S40x6144 .f32) (w : FVec Ideal Cert.ProjKernelIdeal.S1024x7560 .f32)
    (r : Fin 16384) (n : Fin 7680) : EReal :=
  ∑ k : Fin 1024, row x g mod r k * cols (fun x => w (ix2 k x)) n

/-- The result. -/
def out (x : FVec Ideal Cert.ProjKernelIdeal.S8x2048x1024 .f32) (g : FVec Ideal Cert.ProjKernelIdeal.S1024 .f32)
    (mod : FVec Ideal Cert.ProjKernelIdeal.S40x6144 .f32) (w : FVec Ideal Cert.ProjKernelIdeal.S1024x7560 .f32) :
    FVec Ideal Cert.ProjKernelIdeal.S16384x7680 .f32 := fun y => elt x g mod w (y 0) (y 1)

/-- The product with the joined columns is the products with the columns, joined. -/
theorem sum_cols (h : Fin 1024 → EReal) (w : Fin 1024 → Fin 7560 → EReal) (n : Fin 7680) :
    ∑ k : Fin 1024, h k * cols (w k) n = cols (fun x => ∑ k : Fin 1024, h k * w k x) n := by
  unfold cols join
  split_ifs <;> simp only [mul_zero, Finset.sum_const_zero]

section Reference
open Cert.ProjReferenceIdeal Cert.ProjReferenceIdeal.Gen Cert.ProjReferenceIdeal.Read

/-- The reference's normed rows. -/
theorem h_at (x : FVec Ideal S8x2048x1024 .f32) (g : FVec Ideal S1024 .f32)
    (mod : FVec Ideal S40x6144 .f32) (b : Fin 8) (s : Fin 2048) (k : Fin 1024) :
    val_main_v26 (F := Ideal) x g mod (ix3 b s k) = normed (fun j => x (ix3 b s j)) (g (ix1 k))
      (mod (ix2 ⟨b, by omega⟩ ⟨1024 + k, by omega⟩)) (mod (ix2 ⟨b, by omega⟩ ⟨k, by omega⟩)) k := by
  pointwise [val_main_v26, val_main_v25, val_main_v24, val_main_v23, val_main_v22, val_main_v21, val_main_cst_2, val_main_v20, val_main_v19, val_main_v18, val_main_v17, val_main_v16, val_main_v15, val_main_v14, val_main_v13, val_main_v12, val_main_v11, val_main_v10, val_main_v9, val_main_v8, val_main_cst, val_main_cst_0, val_main_cst_1, val_main_v3, val_main_v2, val_main_v1, val_main_v0]
  rfl

/-- The reference's joined columns over its seven groups. -/
theorem cat_at (a : FVec Ideal S8x2048x4096 .f32) (b : FVec Ideal S8x2048x896 .f32) (c : FVec Ideal S8x2048x8 .f32)
    (d : FVec Ideal S8x2048x120 .f32) (e : FVec Ideal S8x2048x1024 .f32) (f g : FVec Ideal S8x2048x768 .f32) (h) (B : Fin 8) (s : Fin 2048) (n : Fin 7680) :
    concatenate S8x2048x7680 2 [⟨S8x2048x4096, a⟩, ⟨S8x2048x896, b⟩, ⟨S8x2048x8, c⟩, ⟨S8x2048x120, d⟩, ⟨S8x2048x1024, e⟩, ⟨S8x2048x768, f⟩, ⟨S8x2048x768, g⟩]
      h (ix3 B s n) = join (fun x => a (ix3 B s x)) (fun x => b (ix3 B s x)) (fun x => c (ix3 B s x)) (fun x => d (ix3 B s x))
        (fun x => e (ix3 B s x)) (fun x => f (ix3 B s x)) (fun x => g (ix3 B s x)) n := by
  pointwise []
  rfl

/-- The reference's product at an index. -/
theorem dot_at (x : FVec Ideal S8x2048x1024 .f32) (g : FVec Ideal S1024 .f32) (mod : FVec Ideal S40x6144 .f32)
    (w : FVec Ideal S1024x7560 .f32) (b : Fin 8) (s : Fin 2048) (n : Fin 7560) :
    val_main_v27 (F := Ideal) x g mod w (ix3 b s n) = ∑ k : Fin 1024, val_main_v26 (F := Ideal) x g mod (ix3 b s k) * w (ix2 k n) := by
  unfold val_main_v27
  generalize val_main_v26 (F := Ideal) x g mod = h
  pointwise []

/-- The reference's joined columns at an index. -/
theorem joined_at (x : FVec Ideal S8x2048x1024 .f32) (g : FVec Ideal S1024 .f32) (mod : FVec Ideal S40x6144 .f32)
    (w : FVec Ideal S1024x7560 .f32) (b : Fin 8) (s : Fin 2048) (n : Fin 7680) :
    val_main_v35 (F := Ideal) x g mod w (ix3 b s n) = cols (fun n => val_main_v27 (F := Ideal) x g mod w (ix3 b s n)) n := by
  unfold val_main_v35 val_main_v28 val_main_v29 val_main_v30 val_main_v32 val_main_v33 val_main_v34
  generalize val_main_v27 (F := Ideal) x g mod w = z
  rw [cat_at]
  refine join_congr ?_ ?_ ?_ ?_ ?_ ?_ ?_ n <;> intro x <;> pointwise [val_main_v31, val_main_cst_3]

/-- The reference's result at an index. -/
theorem ref_at (x : FVec Ideal S8x2048x1024 .f32) (g : FVec Ideal S1024 .f32) (mod : FVec Ideal S40x6144 .f32)
    (w : FVec Ideal S1024x7560 .f32) (r : Fin 16384) (n : Fin 7680) :
    val_main_v36 (F := Ideal) x g mod w (ix2 r n) = elt x g mod w r n := by
  have e : val_main_v36 (F := Ideal) x g mod w (ix2 r n)
      = val_main_v35 (F := Ideal) x g mod w (ix3 ⟨r / 2048, by omega⟩ ⟨r % 2048, by omega⟩ n) := by
    unfold val_main_v36
    generalize val_main_v35 (F := Ideal) x g mod w = z
    pointwise []
  rw [e, joined_at]
  unfold elt
  rw [sum_cols]
  simp only [dot_at, h_at, row]

end Reference

section Kernel
open Cert.ProjKernelIdeal Cert.ProjKernelIdeal.Gen

/-- What a row block's first step keeps: its normed rows. -/
theorem pay1_at (x : Vec Ideal S1024x1024 .f32) (g : Vec Ideal S1x1024 .f32) (sc sh : Vec Ideal S1x1x1024 .f32)
    (r : Fin 1024) (n : Fin 1024) : k0_pay1 (F := Ideal) x g sc sh (ix2 r n)
    = normed (fun j => x (ix2 r j)) (g (ix2 0 n)) (sc (ix3 0 0 n)) (sh (ix3 0 0 n)) n := by
  pointwise [k0_pay1]
  rfl

/-- What a step stores. -/
theorem pay2_at (x : Vec Ideal S1024x1024 .bf16) (w : Vec Ideal S1024x2560 .bf16)
    (r : Fin 1024) (n : Fin 2560) : k0_pay2 (F := Ideal) x w (ix2 r n)
    = ∑ k : Fin 1024, x (ix2 r k) * w (ix2 k n) := by
  pointwise [k0_pay2]

/-- The block of each window at each step. -/
theorem idx : ∀ t : Fin cfg0.N, win0_0.index t = ![t.val / 3, 0] ∧ win0_1.index t = ![0, 0] ∧ win0_2.index t = ![t.val / 6, 0, 0] ∧
    win0_3.index t = ![t.val / 6, 0, 0] ∧ win0_4.index t = ![0, t.val % 3] ∧ win0_5.index t = ![t.val / 3, t.val % 3] ∧ t.val < 48 :=
  (by decide +kernel : ∀ t : Fin grid0.N, _)

variable (m : (ℓ : Loc nD τ sig) → Buf (Elt Ideal) ℓ) (c : Dev nD)

/-- The rows a step reads. -/
theorem x_at (t : Fin cfg0.N) (r k : Fin 1024) :
    iblk m c 0 t (ix2 r k) = m ((c : Thread nD τ).loc main_arg0)
      (ix3 ⟨(t.val / 3 * 1024 + r) / 2048, by have := (idx t).2.2.2.2.2.2; omega⟩ ⟨(t.val / 3 * 1024 + r) % 2048, by omega⟩ k) := by
  blk_simp [iblk]
  entry_read
  pointwise []
  blk_ext [idx t]

/-- The norm's weights a step reads. -/
theorem g_at (t : Fin cfg0.N) (k : Fin 1024) :
    iblk m c 1 t (ix2 0 k) = m ((c : Thread nD τ).loc main_arg1) (ix1 k) := by
  blk_simp [iblk]
  entry_read
  pointwise []
  blk_ext [idx t]

/-- The scale a step reads. -/
theorem sc_at (t : Fin cfg0.N) (n : Fin 1024) :
    iblk m c 2 t (ix3 0 0 n) = m ((c : Thread nD τ).loc main_arg2) (ix2 ⟨t.val / 6, by have := (idx t).2.2.2.2.2.2; omega⟩ ⟨1024 + n, by omega⟩) := by
  blk_simp [iblk]
  entry_read
  pointwise []
  blk_ext [idx t]

/-- The shift a step reads. -/
theorem sh_at (t : Fin cfg0.N) (n : Fin 1024) :
    iblk m c 3 t (ix3 0 0 n) = m ((c : Thread nD τ).loc main_arg2) (ix2 ⟨t.val / 6, by have := (idx t).2.2.2.2.2.2; omega⟩ ⟨n, by omega⟩) := by
  blk_simp [iblk]
  entry_read
  pointwise []
  blk_ext [idx t]

/-- What a row block's first step keeps: the block's normed rows. -/
theorem kept_first (t : Fin cfg0.N) (h0 : t.val % 3 = 0) (hb : t.val < 48) (r k : Fin 1024) : (outsAt0 m c t.val t.isLt).2 (ix2 r k)
    = row (m ((c : Thread nD τ).loc main_arg0)) (m ((c : Thread nD τ).loc main_arg1)) (m ((c : Thread nD τ).loc main_arg2))
        ⟨t.val / 3 * 1024 + r, by omega⟩ k := by
  rw [outsAt0_A m c t h0]
  frame_out
  rw [pay1_at]
  have e : (t.val / 3 * 1024 + r.val) / 2048 = t.val / 6 := by omega
  simp only [x_at, g_at, sc_at, sh_at, row, e]

/-- A later step keeps what the step before it kept. -/
theorem kept_next (t : Fin cfg0.N) (h0 : ¬ t.val % 3 = 0) :
    (outsAt0 m c t.val t.isLt).2 = (outsAt0 m c (t.val - 1) (Nat.lt_of_le_of_lt (Nat.sub_le _ _) t.isLt)).2 := by
  rw [outsAt0_B m c t h0]
  rfl

/-- What the steps of a row block keep: the block's normed rows. -/
theorem kept (n : ℕ) : ∀ (hn : n < cfg0.N) (hb : n < 48) (r k : Fin 1024), (outsAt0 m c n hn).2 (ix2 r k)
    = row (m ((c : Thread nD τ).loc main_arg0)) (m ((c : Thread nD τ).loc main_arg1)) (m ((c : Thread nD τ).loc main_arg2))
        ⟨n / 3 * 1024 + r, by omega⟩ k := by
  induction n using Nat.strong_induction_on with
  | _ n ih =>
    intro hn hb r k
    by_cases h0 : n % 3 = 0
    · exact kept_first m c ⟨n, hn⟩ h0 hb r k
    · refine (congrFun (kept_next m c ⟨n, hn⟩ h0) (ix2 r k)).trans ?_
      refine (ih (n - 1) (by omega) _ (by omega) r k).trans ?_
      have e : (n - 1) / 3 = n / 3 := by omega
      simp only [e]

/-- The joined weights over their seven groups. -/
theorem catw_at (a : FVec Ideal S1024x4096 .bf16) (b : FVec Ideal S1024x896 .bf16) (c : FVec Ideal S1024x8 .bf16)
    (d : FVec Ideal S1024x120 .bf16) (e : FVec Ideal S1024x1024 .bf16) (f g : FVec Ideal S1024x768 .bf16) (k : Fin 1024) (n : Fin 7680) :
    concatenate S1024x7680 1 [⟨S1024x4096, a⟩, ⟨S1024x896, b⟩, ⟨S1024x8, c⟩, ⟨S1024x120, d⟩, ⟨S1024x1024, e⟩, ⟨S1024x768, f⟩, ⟨S1024x768, g⟩]
      concatenates_S1024x4096_S1024x896_S1024x8_S1024x120_S1024x1024_S1024x768_S1024x768_S1024x7680_d1
      (ix2 k n) = join (fun x => a (ix2 k x)) (fun x => b (ix2 k x)) (fun x => c (ix2 k x)) (fun x => d (ix2 k x))
        (fun x => e (ix2 k x)) (fun x => f (ix2 k x)) (fun x => g (ix2 k x)) n := by
  pointwise []
  rfl

/-- The joined weights after the operation, over its operands. -/
theorem catw_op (h1 h2) (F : Valuation τ sig (Elt Ideal)) (k : Fin 1024) (n : Fin 7680) :
    (StableHlo.nary (τ := τ) ![main_v1, main_v2, main_v3, main_v4, main_v5, main_v6, main_v7] main_v8
      (fun u => concatenate S1024x7680 1
        [⟨S1024x4096, u 0⟩, ⟨S1024x896, u 1⟩, ⟨S1024x8, u 2⟩, ⟨S1024x120, u 3⟩, ⟨S1024x1024, u 4⟩, ⟨S1024x768, u 5⟩, ⟨S1024x768, u 6⟩]
        concatenates_S1024x4096_S1024x896_S1024x8_S1024x120_S1024x1024_S1024x768_S1024x768_S1024x7680_d1) h1 h2).result F
      (Proc.devRef .tc main_v8) (ix2 k n) = join (fun x => F (Proc.devRef .tc main_v1) (ix2 k x)) (fun x => F (Proc.devRef .tc main_v2) (ix2 k x))
        (fun x => F (Proc.devRef .tc main_v3) (ix2 k x)) (fun x => F (Proc.devRef .tc main_v4) (ix2 k x))
        (fun x => F (Proc.devRef .tc main_v5) (ix2 k x)) (fun x => F (Proc.devRef .tc main_v6) (ix2 k x))
        (fun x => F (Proc.devRef .tc main_v7) (ix2 k x)) n := by
  rw [StableHlo.nary_result]
  exact catw_at _ _ _ _ _ _ _ k n

/-- The joined weights are the weights' columns in the joined order. -/
theorem V8_at (k : Fin 1024) (n : Fin 7680) :
    V m c main_v8 (ix2 k n) = cols (fun x => m ((c : Thread nD τ).loc main_arg3) (ix2 k x)) n := by
  show StableHlo.after hostOps0 _ _ _ = _
  simp only [StableHlo.after_cons, StableHlo.after_nil]
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  refine (catw_op _ _ _ k n).trans ?_
  refine join_congr ?_ ?_ ?_ ?_ ?_ ?_ ?_ n <;> intro x
  all_goals
    repeat (first
      | (rw [StableHlo.nullary_result_ne]; rotate_left; decide)
      | (rw [StableHlo.unary_result_ne]; rotate_left; decide)
      | (rw [StableHlo.nary_result_ne]; rotate_left; decide)
      | (rw [StableHlo.reshape_result_ne]; rotate_left; decide))
    rw [StableHlo.unary_result]
    repeat (first
      | (rw [StableHlo.nullary_result_ne]; rotate_left; decide)
      | (rw [StableHlo.unary_result_ne]; rotate_left; decide)
      | (rw [StableHlo.nary_result_ne]; rotate_left; decide)
      | (rw [StableHlo.reshape_result_ne]; rotate_left; decide))
    first
      | rw [StableHlo.unary_result]
      | rw [StableHlo.nullary_result]
    repeat (first
      | (rw [StableHlo.nullary_result_ne]; rotate_left; decide)
      | (rw [StableHlo.unary_result_ne]; rotate_left; decide)
      | (rw [StableHlo.nary_result_ne]; rotate_left; decide)
      | (rw [StableHlo.reshape_result_ne]; rotate_left; decide))
    pointwise []
    try rfl

/-- The weights a step reads. -/
theorem w_at (t : Fin cfg0.N) (k : Fin 1024) (n : Fin 2560) :
    iblk m c 4 t (ix2 k n) = cols (fun x => m ((c : Thread nD τ).loc main_arg3) (ix2 k x)) ⟨t.val % 3 * 2560 + n, by omega⟩ := by
  refine Eq.trans ?_ (V8_at m c k _)
  blk_ext [iblk, idx t]

/-- What a step stores, at an index of its block. -/
theorem out_at (t : Fin cfg0.N) (hb : t.val < 48) (r : Fin 1024) (n : Fin 2560) : (outsAt0 m c t.val t.isLt).1 (ix2 r n)
    = elt (m ((c : Thread nD τ).loc main_arg0)) (m ((c : Thread nD τ).loc main_arg1)) (m ((c : Thread nD τ).loc main_arg2))
        (m ((c : Thread nD τ).loc main_arg3)) ⟨t.val / 3 * 1024 + r, by omega⟩ ⟨t.val % 3 * 2560 + n, by omega⟩ := by
  have key : (outsAt0 m c t.val t.isLt).1 (ix2 r n) = ∑ k : Fin 1024, (outsAt0 m c t.val t.isLt).2 (ix2 r k) * iblk m c 4 t (ix2 k n) := by
    by_cases h0 : t.val % 3 = 0
    · rw [outsAt0_A m c t h0]
      frame_out
      rw [pay2_at]
    · rw [kept_next m c t h0, outsAt0_B m c t h0]
      frame_out
      rw [read_unread_whole, pay2_at]
  rw [key]
  unfold elt
  refine Finset.sum_congr rfl fun k _ => ?_
  rw [kept m c t.val t.isLt hb, w_at]

/-- The array after the run. -/
theorem final : (dats m 0 c).arrAt 5 cfg0.N = out (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t _ y => ?_
  blk_simp
  rw [after0_5]
  idx_vars y
  rw [out_at m c t (idx t).2.2.2.2.2.2]
  refine Eq.trans (b := out (m ((c : Thread nD τ).loc main_arg0)) (m ((c : Thread nD τ).loc main_arg1)) (m ((c : Thread nD τ).loc main_arg2))
    (m ((c : Thread nD τ).loc main_arg3)) (ix2 ⟨t.val / 3 * 1024 + y0, by have := (idx t).2.2.2.2.2.2; omega⟩ ⟨t.val % 3 * 2560 + y1, by omega⟩)) rfl ?_
  blk_ext [idx t]

/-- The reference's result of the same arguments is the array after the run. -/
theorem same : Cert.ProjReferenceIdeal.Read.val_main_v36 (F := Ideal) (m ((c : Thread nD τ).loc main_arg0)) (m ((c : Thread nD τ).loc main_arg1))
    (m ((c : Thread nD τ).loc main_arg2)) (m ((c : Thread nD τ).loc main_arg3)) = (dats m 0 c).arrAt 5 cfg0.N := by
  rw [final]
  funext y
  idx_vars y
  exact ref_at _ _ _ _ y0 y1

end Kernel

end Cert.Proj
-- ==== Proof.ProjClaim.lean ====
/- The in-projection's certificate: the frames, and that the kernel computes the reference's result. -/
module

public import proofs.«01_k».proof.Defs
public import proofs.«01_k».proof.Proof.ProjFinal
public import proofs.«01_k».proof.Proof.Gen.ProjKernel.Frame

@[expose] public section

set_option maxRecDepth 16384
set_option maxHeartbeats 1600000

noncomputable section

namespace Cert.Proj

open Idealize.ShloMosaic Idealize.ShloMosaic.TcCoe Idealize.SL.Sem

section
open Cert.ProjReferenceIdeal Cert.ProjReferenceIdeal.Gen Cert.ProjReferenceIdeal.Read

/-- Every run of the reference ends with its result at the last stage and its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v36_eq _ _), (h c).2⟩)
    (Cert.ProjReferenceIdeal.Value.run m ρ)

end

/-- The kernel's frame. -/
theorem frame_kernel : Cert.quiescent_ProjKernel := fun m ρ _ => Cert.ProjKernel.Gen.frame m ρ

/-- The idealized kernel's frame. -/
theorem frame_ideal : Cert.quiescent_ProjKernelIdeal := fun m ρ _ => Cert.ProjKernelIdeal.Gen.frame m ρ

/-- The reference's frame. -/
theorem frame_reference : Cert.quiescent_ProjReferenceIdeal := fun m ρ _ =>
  (θ_run Cert.ProjReferenceIdeal.defs _ _).mono (fun r h => ⟨fun c => (h c).2, sem_eq_zero_of_no_sems (by decide) r.2⟩)
    (run_ref m ρ)

/-- The idealized kernel and the reference end with the same result. -/
theorem algebraic : Cert.algebraic_ProjKernelIdeal_ProjReferenceIdeal := by
  pair_intro
  · run_from Cert.ProjKernelIdeal.Gen.run_main m g
  · refine (θ_run Cert.ProjReferenceIdeal.defs _ _).mono (fun r h c => ?_) (run_ref m' g')
    obtain ⟨e, k⟩ := h c
    obtain ⟨a0, a1, a2, a3⟩ := hagree c
    refine ⟨e.trans ?_, k⟩
    rw [a0, a1, a2, a3]
    exact same m c

end Cert.Proj

end
-- ==== Proof.UpFinal.lean ====
/- The up-projection: each row is normed, scaled and shifted, multiplied with the weights, its first half convolved with the
   two rows before it, and gated. -/
module

public import proofs.«01_k».proof.Proof.Norm
public import proofs.«01_k».proof.Proof.Rows
public import proofs.«01_k».proof.Proof.Gen.UpKernelIdeal.Value
public import proofs.«01_k».proof.Proof.Gen.UpReferenceIdeal.Run
public import proofs.«01_k».proof.Proof.Gen.UpReferenceIdeal.Read
public import Idealize.ShloMosaic.Lib.Pipeline.Value
public import Idealize.ShloMosaic.Lib.Pipeline.ValueKit
public import Idealize.ShloMosaic.Lib.Pipeline.ReadBack
public import Idealize.ShloMosaic.Lib.Tactic
public import Idealize.ShloMosaic.Lib.Claim
public import Idealize.ShloMosaic.Lib.Pointwise

@[expose] public section

set_option maxRecDepth 16384
set_option maxHeartbeats 1600000

noncomputable section

namespace Cert.Up

open Idealize.ShloMosaic Idealize.ShloMosaic.TcCoe Idealize.SL.Sem
open Cert.Norm (normed)
open Cert.Mlstm (sgm sgm_eq sel_ite)

section
variable (x : FVec Ideal Cert.UpKernelIdeal.S16384x1024 .f32) (g : FVec Ideal Cert.UpKernelIdeal.S1024 .f32)
  (mod : FVec Ideal Cert.UpKernelIdeal.S40x6144 .f32) (w : FVec Ideal Cert.UpKernelIdeal.S1024x5632 .f32)
  (cw : FVec Ideal Cert.UpKernelIdeal.S3x2816 .f32) (buf : FVec Ideal Cert.UpKernelIdeal.S8x2x2816 .f32)

/-- The element of the normed rows at a row of all sequences' rows. -/
def row (r : Fin 16384) (k : Fin 1024) : EReal :=
  normed (fun j => x (ix2 r j)) (g (ix1 k)) (mod (ix2 ⟨r / 2048, by omega⟩ ⟨4096 + k, by omega⟩))
    (mod (ix2 ⟨r / 2048, by omega⟩ ⟨3072 + k, by omega⟩)) k

/-- The product's element. -/
def up (r : Fin 16384) (n : Fin 5632) : EReal := ∑ k : Fin 1024, row x g mod r k * w (ix2 k n)

/-- The product's element one row before, in the sequence or in its buffer. -/
def prev1 (r : Fin 16384) (n : Fin 2816) : EReal :=
  if r.val % 2048 = 0 then buf (ix3 ⟨r / 2048, by omega⟩ 1 n) else up x g mod w ⟨r.val - 1, by omega⟩ ⟨n, by omega⟩

/-- The product's element two rows before, in the sequence or in its buffer. -/
def prev2 (r : Fin 16384) (n : Fin 2816) : EReal :=
  if r.val % 2048 = 0 then buf (ix3 ⟨r / 2048, by omega⟩ 0 n)
  else if r.val % 2048 = 1 then buf (ix3 ⟨r / 2048, by omega⟩ 1 n)
  else up x g mod w ⟨r.val - 2, by omega⟩ ⟨n, by omega⟩

/-- The convolution's element. -/
def conv (r : Fin 16384) (n : Fin 2816) : EReal :=
  cw (ix2 0 n) * prev2 x g mod w buf r n + cw (ix2 1 n) * prev1 x g mod w buf r n + cw (ix2 2 n) * up x g mod w r ⟨n, by omega⟩

/-- The result. -/
def out : FVec Ideal Cert.UpKernelIdeal.S16384x2816 .bf16 := fun y =>
  conv x g mod w cw buf (y 0) (y 1) * sgm (conv x g mod w cw buf (y 0) (y 1)) * up x g mod w (y 0) ⟨2816 + (y 1).val, by
    have : (y 1).val < 2816 := (y 1).isLt
    omega⟩

/-- The last two rows of each block of 512. -/
def tails : FVec Ideal Cert.UpKernelIdeal.S32x2x2816 .f32 := fun y =>
  up x g mod w ⟨(y 0).val * 512 + 510 + (y 1).val, by
    have : (y 0).val < 32 := (y 0).isLt
    have : (y 1).val < 2 := (y 1).isLt
    omega⟩ ⟨(y 2).val, by
    have : (y 2).val < 2816 := (y 2).isLt
    omega⟩

end

section Reference
open Cert.UpReferenceIdeal Cert.UpReferenceIdeal.Gen Cert.UpReferenceIdeal.Read

variable (x : FVec Ideal S16384x1024 .f32) (g : FVec Ideal S1024 .f32) (mod : FVec Ideal S40x6144 .f32) (w : FVec Ideal S1024x5632 .f32)
  (cw : FVec Ideal S3x2816 .f32) (buf : FVec Ideal S8x2x2816 .f32)

/-- The reference's normed rows. -/
theorem h_at (b : Fin 8) (s : Fin 2048) (k : Fin 1024) :
    val_main_v27 (F := Ideal) x g mod (ix3 b s k) = row x g mod ⟨b * 2048 + s, by omega⟩ k := by
  have e : (b.val * 2048 + s.val) / 2048 = b.val := by omega
  simp only [row, e]
  pointwise [val_main_v27, val_main_v26, val_main_v25, val_main_v24, val_main_v23, val_main_v22, val_main_v21, val_main_cst_2, val_main_v20, val_main_v19, val_main_v18, val_main_v17, val_main_v16, val_main_v15, val_main_v14, val_main_v13, val_main_v12, val_main_v11, val_main_v10, val_main_v9, val_main_v7, val_main_v6, val_main_cst, val_main_cst_0, val_main_cst_1, val_main_v2, val_main_v1, val_main_v0]
  rfl

/-- The reference's product at an index. -/
theorem dot_at (b : Fin 8) (s : Fin 2048) (n : Fin 5632) :
    val_main_v28 (F := Ideal) x g mod w (ix3 b s n) = up x g mod w ⟨b * 2048 + s, by omega⟩ n := by
  have e : val_main_v28 (F := Ideal) x g mod w (ix3 b s n) = ∑ k : Fin 1024, val_main_v27 (F := Ideal) x g mod (ix3 b s k) * w (ix2 k n) := by
    unfold val_main_v28
    generalize val_main_v27 (F := Ideal) x g mod = h
    pointwise []
  rw [e]
  simp only [h_at, up]

/-- The buffer's two rows followed by the sequence's rows. -/
theorem cat_at (z : FVec Ideal S8x2048x2816 .f32) (b : Fin 8) (s : Fin 2050) (n : Fin 2816) :
    concatenate S8x2050x2816 1 [⟨S8x2x2816, buf⟩, ⟨S8x2048x2816, z⟩] concatenates_S8x2x2816_S8x2048x2816_S8x2050x2816_d1 (ix3 b s n)
      = if h : s.val < 2 then buf (ix3 b ⟨s.val, h⟩ n) else z (ix3 b ⟨s.val - 2, by omega⟩ n) := by
  pointwise []
  try rfl

/-- The rows before a row, read where the buffer's rows come first. -/
theorem ext_at (b : Fin 8) (s : Fin 2050) (n : Fin 2816) : val_main_v31 (F := Ideal) x g mod w buf (ix3 b s n)
    = if h : s.val < 2 then buf (ix3 b ⟨s.val, h⟩ n) else up x g mod w ⟨b * 2048 + (s.val - 2), by omega⟩ ⟨n, by omega⟩ := by
  unfold val_main_v31 val_main_v29
  rw [cat_at]
  by_cases h : s.val < 2
  · simp only [h, dif_pos]
  · simp only [h, dif_neg, not_false_eq_true]
    refine Eq.trans ?_ (dot_at x g mod w b ⟨s.val - 2, by omega⟩ ⟨n, by omega⟩)
    generalize val_main_v28 (F := Ideal) x g mod w = z
    pointwise []

/-- The reference's convolution at an index. -/
theorem conv_at (b : Fin 8) (s : Fin 2048) (n : Fin 2816) : val_main_v53 (F := Ideal) x g mod w cw buf (ix3 b s n)
    = conv x g mod w cw buf ⟨b * 2048 + s, by omega⟩ n := by
  have e : val_main_v53 (F := Ideal) x g mod w cw buf (ix3 b s n)
      = cw (ix2 0 n) * val_main_v31 (F := Ideal) x g mod w buf (ix3 b ⟨s, by omega⟩ n)
        + cw (ix2 1 n) * val_main_v31 (F := Ideal) x g mod w buf (ix3 b ⟨1 + s, by omega⟩ n)
        + cw (ix2 2 n) * val_main_v31 (F := Ideal) x g mod w buf (ix3 b ⟨2 + s, by omega⟩ n) := by
    unfold val_main_v53 val_main_v52 val_main_v49 val_main_v46 val_main_v45 val_main_v42 val_main_v39 val_main_v37 val_main_v34
    generalize val_main_v31 (F := Ideal) x g mod w buf = z
    pointwise [val_main_v51, val_main_v50, val_main_v48, val_main_v47, val_main_v44, val_main_v43, val_main_v41, val_main_v40, val_main_v38, val_main_cst_3, val_main_v36, val_main_v35, val_main_v33, val_main_v32]
  have e1 : (b.val * 2048 + s.val) / 2048 = b.val := by omega
  have e2 : (b.val * 2048 + s.val) % 2048 = s.val := by omega
  have p2 : val_main_v31 (F := Ideal) x g mod w buf (ix3 b ⟨s, by omega⟩ n) = prev2 x g mod w buf ⟨b * 2048 + s, by omega⟩ n := by
    simp only [ext_at, prev2, e1, e2]
    by_cases h0 : s.val = 0
    · rw [dif_pos (by omega), if_pos h0]
      refine congrArg (fun q => buf (ix3 b q n)) (Fin.ext ?_)
      exact h0
    · by_cases h1 : s.val = 1
      · rw [dif_pos (by omega), if_neg h0, if_pos h1]
        refine congrArg (fun q => buf (ix3 b q n)) (Fin.ext ?_)
        exact h1
      · rw [dif_neg (by omega), if_neg h0, if_neg h1]
        refine congrArg (fun q => up x g mod w q _) (Fin.ext ?_)
        show b.val * 2048 + (s.val - 2) = b.val * 2048 + s.val - 2
        omega
  have p1 : val_main_v31 (F := Ideal) x g mod w buf (ix3 b ⟨1 + s, by omega⟩ n) = prev1 x g mod w buf ⟨b * 2048 + s, by omega⟩ n := by
    simp only [ext_at, prev1, e1, e2]
    by_cases h0 : s.val = 0
    · rw [dif_pos (by omega), if_pos h0]
      refine congrArg (fun q => buf (ix3 b q n)) (Fin.ext ?_)
      show 1 + s.val = 1
      omega
    · rw [dif_neg (by omega), if_neg h0]
      refine congrArg (fun q => up x g mod w q _) (Fin.ext ?_)
      show b.val * 2048 + (1 + s.val - 2) = b.val * 2048 + s.val - 1
      omega
  have p0 : val_main_v31 (F := Ideal) x g mod w buf (ix3 b ⟨2 + s, by omega⟩ n) = up x g mod w ⟨b * 2048 + s, by omega⟩ ⟨n, by omega⟩ := by
    simp only [ext_at]
    rw [dif_neg (by omega)]
    refine congrArg (fun q => up x g mod w q _) (Fin.ext ?_)
    show b.val * 2048 + (2 + s.val - 2) = b.val * 2048 + s.val
    omega
  rw [e, p2, p1, p0]
  rfl

/-- The reference's first result. -/
theorem act_ref : val_main_v59 (F := Ideal) x g mod w cw buf = out x g mod w cw buf := by
  funext y
  idx_vars y
  have e : val_main_v59 (F := Ideal) x g mod w cw buf (ix2 y0 y1)
      = val_main_v53 (F := Ideal) x g mod w cw buf (ix3 ⟨y0 / 2048, by omega⟩ ⟨y0 % 2048, by omega⟩ y1) *
        Ideal.div 1 (1 + Ideal.exp (-val_main_v53 (F := Ideal) x g mod w cw buf (ix3 ⟨y0 / 2048, by omega⟩ ⟨y0 % 2048, by omega⟩ y1))) *
        val_main_v28 (F := Ideal) x g mod w (ix3 ⟨y0 / 2048, by omega⟩ ⟨y0 % 2048, by omega⟩ ⟨2816 + y1, by omega⟩) := by
    unfold val_main_v59 val_main_v58 val_main_v55 val_main_v54 val_main_call0_v5 val_main_call0_v3 val_main_call0_v1 val_main_call0_v0 val_main_v30
    generalize val_main_v53 (F := Ideal) x g mod w cw buf = z
    generalize val_main_v28 (F := Ideal) x g mod w = u
    pointwise [val_main_call0_v4, val_main_call0_cst_0, val_main_call0_v2, val_main_call0_cst]
  have e1 : y0.val / 2048 * 2048 + y0.val % 2048 = y0.val := by omega
  rw [e, sgm_eq, conv_at, dot_at]
  simp only [e1]
  rfl

/-- The reference's second result. -/
theorem tails_ref : val_main_v57 (F := Ideal) x g mod w = tails x g mod w := by
  funext y
  idx_vars y
  have e : val_main_v57 (F := Ideal) x g mod w (ix3 y0 y1 y2)
      = val_main_v28 (F := Ideal) x g mod w (ix3 ⟨y0 / 4, by omega⟩ ⟨y0 % 4 * 512 + (510 + y1), by omega⟩ ⟨y2, by omega⟩) := by
    unfold val_main_v57 val_main_v56 val_main_v29
    generalize val_main_v28 (F := Ideal) x g mod w = u
    pointwise []
  have e1 : y0.val / 4 * 2048 + (y0.val % 4 * 512 + (510 + y1.val)) = y0.val * 512 + 510 + y1.val := by omega
  rw [e, dot_at]
  simp only [e1]
  rfl

end Reference

section Kernel
open Cert.UpKernelIdeal Cert.UpKernelIdeal.Gen

/-- The block of each window at each step. -/
theorem idx : ∀ t : Fin cfg0.N, win0_0.index t = ![t.val / 2, 0] ∧ win0_1.index t = ![t.val / 2 * 32 - 1, 0] ∧ win0_2.index t = ![0, 0] ∧
    win0_3.index t = ![t.val / 8, 0, 0] ∧ win0_4.index t = ![t.val / 8, 0, 0] ∧ win0_5.index t = ![0, t.val % 2] ∧
    win0_6.index t = ![0, 2 + t.val % 2] ∧ win0_7.index t = ![0, t.val % 2] ∧ win0_8.index t = ![t.val / 8, 0, t.val % 2] ∧
    win0_9.index t = ![t.val / 2, t.val % 2] ∧ win0_10.index t = ![t.val / 2, 0, t.val % 2] ∧ t.val < 64 :=
  (by decide +kernel : ∀ t : Fin grid0.N, _)

/-- The number of steps bounds a step. -/
theorem lt64 (t : Fin cfg0.N) : t.val < 64 := (idx t).2.2.2.2.2.2.2.2.2.2.2

/-- The test whether a row block is its sequence's first, as the kernel computes it. -/
def first (a : BitVec 32) : BitVec 1 :=
  Scalar.cmpi CmpIPredicate.eq
    (Scalar.select
      (Scalar.andi
        (Scalar.xori (Scalar.cmpi CmpIPredicate.slt (Scalar.remsi a 4#32) 0#32) (Scalar.cmpi CmpIPredicate.slt 4#32 0#32))
        (Scalar.cmpi CmpIPredicate.ne (Scalar.remsi a 4#32) 0#32))
      (Scalar.addi (Scalar.remsi a 4#32) 4#32) (Scalar.remsi a 4#32)) 0#32

/-- A row block is its sequence's first when its number is a multiple of four. -/
theorem first_eq : ∀ t : Fin cfg0.N, first (BitVec.ofNat 32 (grid0.coords t 0)) = if t.val / 2 % 4 = 0 then 1#1 else 0#1 :=
  (by decide +kernel : ∀ t : Fin grid0.N, _)

/-- A row's number compared as a 32-bit word. -/
theorem row_eq : ∀ r : Fin 512, IntOp.cmpi CmpIPredicate.eq (BitVec.ofNat 32 r) 0#32 = (if r.val = 0 then 1#1 else 0#1) ∧
    IntOp.cmpi CmpIPredicate.eq (BitVec.ofNat 32 r) 1#32 = (if r.val = 1 then 1#1 else 0#1) := by
  decide +kernel

/-- What a row block's first step keeps: its normed rows. -/
theorem pay3_at (x : Vec Ideal S512x1024 .f32) (g : Vec Ideal S1x1024 .f32) (sc sh : Vec Ideal S1x1x1024 .f32)
    (r : Fin 512) (n : Fin 1024) : k0_pay3 (F := Ideal) x g sc sh (ix2 r n)
    = normed (fun j => x (ix2 r j)) (g (ix2 0 n)) (sc (ix3 0 0 n)) (sh (ix3 0 0 n)) n := by
  pointwise [k0_pay3]
  rfl

/-- What a row block's first step keeps: the normed rows before the block. -/
theorem pay5_at (x : Vec Ideal S16x1024 .f32) (g : Vec Ideal S1x1024 .f32) (sc sh : Vec Ideal S1x1x1024 .f32)
    (r : Fin 16) (n : Fin 1024) : k0_pay5 (F := Ideal) x (k0_pay4 x) g sc sh (ix2 r n)
    = normed (fun j => x (ix2 r j)) (g (ix2 0 n)) (sc (ix3 0 0 n)) (sh (ix3 0 0 n)) n := by
  pointwise [k0_pay5, k0_pay4]
  rfl

/-- The block's product with the first half's columns. -/
theorem pay6_at (x : Vec Ideal S512x1024 .bf16) (w : Vec Ideal S1024x1408 .bf16) (r : Fin 512) (n : Fin 1408) :
    k0_pay6 (F := Ideal) x w (ix2 r n) = ∑ k : Fin 1024, x (ix2 r k) * w (ix2 k n) := by
  pointwise [k0_pay6]

/-- The block's product with the second half's columns. -/
theorem pay7_at (x : Vec Ideal S512x1024 .bf16) (w : Vec Ideal S1024x1408 .bf16) (r : Fin 512) (n : Fin 1408) :
    k0_pay7 (F := Ideal) x w (ix2 r n) = ∑ k : Fin 1024, x (ix2 r k) * w (ix2 k n) := by
  pointwise [k0_pay7]

/-- The product of the rows before the block. -/
theorem pay8_at (x : Vec Ideal S16x1024 .bf16) (w : Vec Ideal S1024x1408 .bf16) (r : Fin 16) (n : Fin 1408) :
    k0_pay8 (F := Ideal) x w (ix2 r n) = ∑ k : Fin 1024, x (ix2 r k) * w (ix2 k n) := by
  pointwise [k0_pay8]

/-- The product of the block's last rows. -/
theorem pay9_at (x : Vec Ideal S16x1024 .bf16) (w : Vec Ideal S1024x1408 .bf16) (r : Fin 16) (n : Fin 1408) :
    k0_pay9 (F := Ideal) x w (ix2 r n) = ∑ k : Fin 1024, x (ix2 r k) * w (ix2 k n) := by
  pointwise [k0_pay9]

/-- The row before the block. -/
theorem pay10_at (a : BitVec 32) (b : Vec Ideal S1x1x1408 .f32) (p : Vec Ideal S1x1408 .f32) (n : Fin 1408) :
    k0_pay10 (F := Ideal) a 4#32 0#1 1#32 b p (ix2 0 n) = Scalar.select (first a) (b (ix3 0 0 n)) (p (ix2 0 n)) := by
  pointwise [k0_pay10]
  rfl

/-- The rows moved one row down. -/
theorem pay11_at (a : BitVec 32) (u : Vec Ideal S512x1408 .f32) (b : Vec Ideal S1x1x1408 .f32) (p : Vec Ideal S1x1408 .f32)
    (r : Fin 512) (n : Fin 1408) : k0_pay11 (F := Ideal) a u 4#32 0#1 1#32 b p (ix2 r n)
    = if r.val = 0 then Scalar.select (first a) (b (ix3 0 0 n)) (p (ix2 0 n)) else u (ix2 ⟨(r.val + 512 - 1) % 512, by omega⟩ n) := by
  pointwise [k0_pay11]
  rw [(row_eq r).1, sel_ite, pay10_at]

/-- The rows moved two rows down, times the convolution's first weights. -/
theorem pay12_at (a : BitVec 32) (u : Vec Ideal S512x1408 .f32) (b2 : Vec Ideal S1x1x1408 .f32) (p2 : Vec Ideal S1x1408 .f32)
    (b1 : Vec Ideal S1x1x1408 .f32) (p1 : Vec Ideal S1x1408 .f32) (cw : Vec Ideal S1x1408 .f32) (r : Fin 512) (n : Fin 1408) :
    k0_pay12 (F := Ideal) a u 4#32 0#1 1#32 b2 p2 b1 p1 cw (ix2 r n)
    = cw (ix2 0 n) * if r.val = 0 then Scalar.select (first a) (b2 (ix3 0 0 n)) (p2 (ix2 0 n))
        else if r.val = 1 then Scalar.select (first a) (b1 (ix3 0 0 n)) (p1 (ix2 0 n)) else u (ix2 ⟨(r.val + 512 - 2) % 512, by omega⟩ n) := by
  pointwise [k0_pay12]
  rw [(row_eq r).1, (row_eq r).2, sel_ite, sel_ite, pay10_at]
  rfl

/-- What a step stores first. -/
theorem pay1_at (u l p1 c2 : Vec Ideal S512x1408 .f32) (cw1 cw2 : Vec Ideal S1x1408 .f32) (r : Fin 512) (n : Fin 1408) :
    k0_pay1 (F := Ideal) u l p1 c2 cw1 cw2 (ix2 r n)
    = (c2 (ix2 r n) + cw1 (ix2 0 n) * p1 (ix2 r n) + cw2 (ix2 0 n) * u (ix2 r n)) *
        sgm (c2 (ix2 r n) + cw1 (ix2 0 n) * p1 (ix2 r n) + cw2 (ix2 0 n) * u (ix2 r n)) * l (ix2 r n) := by
  pointwise [k0_pay1]
  rfl

/-- What a step stores second. -/
theorem pay2_at (v : Vec Ideal S2x1408 .f32) (s : Fin 2) (n : Fin 1408) : k0_pay2 (F := Ideal) v (ix3 0 s n) = v (ix2 s n) := by
  pointwise [k0_pay2]

/-- The last row but one of the sixteen before the block. -/
def halo2 (x : Vec Ideal S16x1408 .f32) : Vec Ideal S1x1408 .f32 :=
  View.ld (Val := Elt Ideal) (e' := .f32) x (Rect.unit (s := S16x1408) ![14, 0] S1x1408.size inb_S16x1408_S1x1408_14_0)

/-- The last of the sixteen rows before the block. -/
def halo1 (x : Vec Ideal S16x1408 .f32) : Vec Ideal S1x1408 .f32 :=
  View.ld (Val := Elt Ideal) (e' := .f32) x (Rect.unit (s := S16x1408) ![15, 0] S1x1408.size inb_S16x1408_S1x1408_15_0)

/-- The buffer's first row. -/
def buf2 (x : Vec Ideal S1x2x1408 .f32) : Vec Ideal S1x1x1408 .f32 :=
  View.ld (Val := Elt Ideal) (e' := .f32) x (Rect.unit (s := S1x2x1408) ![0, 0, 0] S1x1x1408.size inb_S1x2x1408_S1x1x1408_0_0_0)

/-- The buffer's second row. -/
def buf1 (x : Vec Ideal S1x2x1408 .f32) : Vec Ideal S1x1x1408 .f32 :=
  View.ld (Val := Elt Ideal) (e' := .f32) x (Rect.unit (s := S1x2x1408) ![0, 1, 0] S1x1x1408.size inb_S1x2x1408_S1x1x1408_0_1_0)

/-- The convolution's first weights. -/
def cw0 (x : Vec Ideal S3x1408 .f32) : Vec Ideal S1x1408 .f32 :=
  View.ld (Val := Elt Ideal) (e' := .f32) x (Rect.unit (s := S3x1408) ![0, 0] S1x1408.size inb_S3x1408_S1x1408_0_0)

/-- The convolution's second weights. -/
def cw1 (x : Vec Ideal S3x1408 .f32) : Vec Ideal S1x1408 .f32 :=
  View.ld (Val := Elt Ideal) (e' := .f32) x (Rect.unit (s := S3x1408) ![1, 0] S1x1408.size inb_S3x1408_S1x1408_1_0)

/-- The convolution's third weights. -/
def cw2 (x : Vec Ideal S3x1408 .f32) : Vec Ideal S1x1408 .f32 :=
  View.ld (Val := Elt Ideal) (e' := .f32) x (Rect.unit (s := S3x1408) ![2, 0] S1x1408.size inb_S3x1408_S1x1408_2_0)

/-- The block's last sixteen rows. -/
def last16 (x : Vec Ideal S512x1024 .bf16) : Vec Ideal S16x1024 .bf16 :=
  View.ld (Val := Elt Ideal) (e' := .bf16) x (Rect.unit (s := S512x1024) ![496, 0] S16x1024.size inb_S512x1024_S16x1024_496_0)

/-- The last two of sixteen rows. -/
def last2 (x : Vec Ideal S16x1408 .f32) : Vec Ideal S2x1408 .f32 :=
  View.ld (Val := Elt Ideal) (e' := .f32) x (Rect.unit (s := S16x1408) ![14, 0] S2x1408.size inb_S16x1408_S2x1408_14_0)

/-- A step's first result over the kept rows and its blocks. -/
def act (a : BitVec 32) (h : Vec Ideal S512x1024 .bf16) (hp : Vec Ideal S16x1024 .bf16) (wa wl : Vec Ideal S1024x1408 .bf16)
    (cw : Vec Ideal S3x1408 .f32) (b : Vec Ideal S1x2x1408 .f32) : Vec Ideal S512x1408 .bf16 :=
  k0_pay1 (F := Ideal) (k0_pay6 h wa) (k0_pay7 h wl)
    (k0_pay11 a (k0_pay6 h wa) 4#32 0#1 1#32 (buf1 b) (halo1 (k0_pay8 hp wa)))
    (k0_pay12 a (k0_pay6 h wa) 4#32 0#1 1#32 (buf2 b) (halo2 (k0_pay8 hp wa)) (buf1 b) (halo1 (k0_pay8 hp wa)) (cw0 cw)) (cw1 cw) (cw2 cw)

/-- A step's second result over the kept rows and its blocks. -/
def last (h : Vec Ideal S512x1024 .bf16) (wa : Vec Ideal S1024x1408 .bf16) : Vec Ideal S1x2x1408 .f32 :=
  k0_pay2 (F := Ideal) (last2 (k0_pay9 (last16 h) wa))

/-- A step's product of row `r` of its block and column `n` of its columns. -/
def dot (h : Vec Ideal S512x1024 .bf16) (w : Vec Ideal S1024x1408 .bf16) (r : Fin 512) (n : Fin 1408) : EReal :=
  ∑ k : Fin 1024, h (ix2 r k) * w (ix2 k n)

/-- A step's product of row `r` of the sixteen rows before its block and column `n` of its columns. -/
def dotp (h : Vec Ideal S16x1024 .bf16) (w : Vec Ideal S1024x1408 .bf16) (r : Fin 16) (n : Fin 1408) : EReal :=
  ∑ k : Fin 1024, h (ix2 r k) * w (ix2 k n)

/-- A step's convolution over the kept rows and its blocks. -/
def cv (a : BitVec 32) (h : Vec Ideal S512x1024 .bf16) (hp : Vec Ideal S16x1024 .bf16) (wa : Vec Ideal S1024x1408 .bf16)
    (cw : Vec Ideal S3x1408 .f32) (b : Vec Ideal S1x2x1408 .f32) (r : Fin 512) (n : Fin 1408) : EReal :=
  cw (ix2 0 n) * (if r.val = 0 then Scalar.select (first a) (b (ix3 0 0 n)) (dotp hp wa 14 n)
      else if r.val = 1 then Scalar.select (first a) (b (ix3 0 1 n)) (dotp hp wa 15 n) else dot h wa ⟨(r.val + 512 - 2) % 512, by omega⟩ n)
    + cw (ix2 1 n) * (if r.val = 0 then Scalar.select (first a) (b (ix3 0 1 n)) (dotp hp wa 15 n)
      else dot h wa ⟨(r.val + 512 - 1) % 512, by omega⟩ n)
    + cw (ix2 2 n) * dot h wa r n

/-- A step's first result at an index of its block. -/
theorem act_at (a : BitVec 32) (h : Vec Ideal S512x1024 .bf16) (hp : Vec Ideal S16x1024 .bf16) (wa wl : Vec Ideal S1024x1408 .bf16)
    (cw : Vec Ideal S3x1408 .f32) (b : Vec Ideal S1x2x1408 .f32) (r : Fin 512) (n : Fin 1408) :
    act a h hp wa wl cw b (ix2 r n) = cv a h hp wa cw b r n * sgm (cv a h hp wa cw b r n) * dot h wl r n := by
  have e1 : ∀ x : Vec Ideal S16x1408 .f32, halo1 x (ix2 0 n) = x (ix2 15 n) := fun x => by pointwise [halo1]
  have e2 : ∀ x : Vec Ideal S16x1408 .f32, halo2 x (ix2 0 n) = x (ix2 14 n) := fun x => by pointwise [halo2]
  have e3 : buf1 b (ix3 0 0 n) = b (ix3 0 1 n) := by pointwise [buf1]
  have e4 : buf2 b (ix3 0 0 n) = b (ix3 0 0 n) := by pointwise [buf2]
  have e5 : cw0 cw (ix2 0 n) = cw (ix2 0 n) := by pointwise [cw0]
  have e6 : cw1 cw (ix2 0 n) = cw (ix2 1 n) := by pointwise [cw1]
  have e7 : cw2 cw (ix2 0 n) = cw (ix2 2 n) := by pointwise [cw2]
  unfold act
  simp only [pay1_at, pay12_at, pay11_at, pay6_at, pay7_at, e1, e2, e3, e4, e5, e6, e7, pay8_at]
  rfl

/-- A step's second result at an index of its block. -/
theorem last_at (h : Vec Ideal S512x1024 .bf16) (wa : Vec Ideal S1024x1408 .bf16) (s : Fin 2) (n : Fin 1408) :
    last h wa (ix3 0 s n) = dot h wa ⟨510 + s, by omega⟩ n := by
  have e1 : ∀ x : Vec Ideal S16x1408 .f32, last2 x (ix2 s n) = x (ix2 ⟨14 + s, by omega⟩ n) := fun x => by pointwise [last2]
  have e2 : ∀ k : Fin 1024, last16 h (ix2 ⟨14 + s, by omega⟩ k) = h (ix2 ⟨510 + s, by omega⟩ k) := fun k => by
    unfold last16
    pointwise []
    refine congrArg (fun q => h (ix2 q k)) (Fin.ext ?_)
    show 496 + (14 + s.val) = 510 + s.val
    omega
  unfold last
  rw [pay2_at, e1, pay9_at]
  simp only [e2]
  rfl

variable (m : (ℓ : Loc nD τ sig) → Buf (Elt Ideal) ℓ) (c : Dev nD)

/-- A later step keeps what the step before it kept. -/
theorem kept_next (t : Fin cfg0.N) (h0 : ¬ t.val % 2 = 0) :
    (outsAt0 m c t.val t.isLt).2.2 = (outsAt0 m c (t.val - 1) (Nat.lt_of_le_of_lt (Nat.sub_le _ _) t.isLt)).2.2 := by
  rw [outsAt0_B m c t h0]
  rfl

/-- A step's results over what it keeps. -/
theorem results (t : Fin cfg0.N) :
    (outsAt0 m c t.val t.isLt).1 = act (BitVec.ofNat 32 (grid0.coords t 0)) (outsAt0 m c t.val t.isLt).2.2.1 (outsAt0 m c t.val t.isLt).2.2.2
      (iblk m c 5 t) (iblk m c 6 t) (iblk m c 7 t) (iblk m c 8 t) ∧
    (outsAt0 m c t.val t.isLt).2.1 = last (outsAt0 m c t.val t.isLt).2.2.1 (iblk m c 5 t) := by
  by_cases h0 : t.val % 2 = 0
  · rw [outsAt0_A m c t h0]
    constructor
    · frame_out
      rw [View.readCov_fill _ _ _ _ _ (by decide), View.readCov_fill _ _ _ _ _ (by decide)]
      rfl
    · frame_out
      rw [View.readCov_fill _ _ _ _ _ (by decide), View.readCov_fill _ _ _ _ _ (by decide)]
      rfl
  · rw [kept_next m c t h0, outsAt0_B m c t h0]
    constructor
    · frame_out
      rw [View.readCov_fill _ _ _ _ _ (by decide), View.readCov_fill _ _ _ _ _ (by decide), read_unread_whole, read_unread_whole]
      generalize (outsAt0 m c (t.val - 1) _).2.2 = S
      rfl
    · frame_out
      rw [View.readCov_fill _ _ _ _ _ (by decide), read_unread_whole]
      generalize (outsAt0 m c (t.val - 1) _).2.2 = S
      rfl

/-- The rows a step reads. -/
theorem x_at (t : Fin cfg0.N) (r : Fin 512) (k : Fin 1024) :
    iblk m c 0 t (ix2 r k) = m ((c : Thread nD τ).loc main_arg0) (ix2 ⟨t.val / 2 * 512 + r, by have := lt64 t; omega⟩ k) := by
  blk_ext [iblk, V_main_arg0, idx t]

/-- The rows before its block a step reads. -/
theorem xp_at (t : Fin cfg0.N) (r : Fin 16) (k : Fin 1024) :
    iblk m c 1 t (ix2 r k) = m ((c : Thread nD τ).loc main_arg0) (ix2 ⟨(t.val / 2 * 32 - 1) * 16 + r, by have := lt64 t; omega⟩ k) := by
  blk_ext [iblk, V_main_arg0, idx t]

/-- The norm's weights a step reads. -/
theorem g_at (t : Fin cfg0.N) (k : Fin 1024) :
    iblk m c 2 t (ix2 0 k) = m ((c : Thread nD τ).loc main_arg1) (ix1 k) := by
  blk_simp [iblk]
  entry_read
  pointwise []
  blk_ext [idx t]

/-- The scale a step reads. -/
theorem sc_at (t : Fin cfg0.N) (n : Fin 1024) :
    iblk m c 3 t (ix3 0 0 n) = m ((c : Thread nD τ).loc main_arg2) (ix2 ⟨t.val / 8, by have := lt64 t; omega⟩ ⟨4096 + n, by omega⟩) := by
  blk_simp [iblk]
  entry_read
  pointwise []
  blk_ext [idx t]

/-- The shift a step reads. -/
theorem sh_at (t : Fin cfg0.N) (n : Fin 1024) :
    iblk m c 4 t (ix3 0 0 n) = m ((c : Thread nD τ).loc main_arg2) (ix2 ⟨t.val / 8, by have := lt64 t; omega⟩ ⟨3072 + n, by omega⟩) := by
  blk_simp [iblk]
  entry_read
  pointwise []
  blk_ext [idx t]

/-- The first half's columns a step reads. -/
theorem wa_at (t : Fin cfg0.N) (k : Fin 1024) (n : Fin 1408) :
    iblk m c 5 t (ix2 k n) = m ((c : Thread nD τ).loc main_arg3) (ix2 k ⟨t.val % 2 * 1408 + n, by omega⟩) := by
  blk_simp [iblk]
  entry_read
  pointwise []
  blk_ext [idx t]

/-- The second half's columns a step reads. -/
theorem wl_at (t : Fin cfg0.N) (k : Fin 1024) (n : Fin 1408) :
    iblk m c 6 t (ix2 k n) = m ((c : Thread nD τ).loc main_arg3) (ix2 k ⟨2816 + (t.val % 2 * 1408 + n), by omega⟩) := by
  blk_simp [iblk]
  entry_read
  pointwise []
  blk_ext [idx t]

/-- The convolution's weights a step reads. -/
theorem cw_at (t : Fin cfg0.N) (j : Fin 3) (n : Fin 1408) :
    iblk m c 7 t (ix2 j n) = m ((c : Thread nD τ).loc main_arg4) (ix2 j ⟨t.val % 2 * 1408 + n, by omega⟩) := by
  blk_ext [iblk, V_main_arg4, idx t]

/-- The buffer's rows a step reads. -/
theorem buf_at (t : Fin cfg0.N) (j : Fin 2) (n : Fin 1408) :
    iblk m c 8 t (ix3 0 j n) = m ((c : Thread nD τ).loc main_arg5)
      (ix3 ⟨t.val / 8, by have := lt64 t; omega⟩ j ⟨t.val % 2 * 1408 + n, by omega⟩) := by
  blk_ext [iblk, V_main_arg5, idx t]

/-- What a row block's first step keeps: the block's normed rows, and the sixteen before them in the same sequence. -/
theorem kept_first (t : Fin cfg0.N) (h0 : t.val % 2 = 0) (hb : t.val < 64) :
    (∀ (r : Fin 512) (k : Fin 1024), (outsAt0 m c t.val t.isLt).2.2.1 (ix2 r k)
      = row (m ((c : Thread nD τ).loc main_arg0)) (m ((c : Thread nD τ).loc main_arg1)) (m ((c : Thread nD τ).loc main_arg2))
          ⟨t.val / 2 * 512 + r, by omega⟩ k) ∧
    (t.val / 2 % 4 ≠ 0 → ∀ (r : Fin 16) (k : Fin 1024), (outsAt0 m c t.val t.isLt).2.2.2 (ix2 r k)
      = row (m ((c : Thread nD τ).loc main_arg0)) (m ((c : Thread nD τ).loc main_arg1)) (m ((c : Thread nD τ).loc main_arg2))
          ⟨(t.val / 2 * 32 - 1) * 16 + r, by omega⟩ k) := by
  rw [outsAt0_A m c t h0]
  constructor
  · intro r k
    frame_out
    rw [pay3_at]
    have e : (t.val / 2 * 512 + r.val) / 2048 = t.val / 8 := by omega
    simp only [x_at, g_at, sc_at, sh_at, row, e]
  · intro h r k
    frame_out
    rw [pay5_at]
    have e : ((t.val / 2 * 32 - 1) * 16 + r.val) / 2048 = t.val / 8 := by omega
    simp only [xp_at, g_at, sc_at, sh_at, row, e]

/-- What the steps of a row block keep. -/
theorem kept (t : Fin cfg0.N) (hb : t.val < 64) :
    (∀ (r : Fin 512) (k : Fin 1024), (outsAt0 m c t.val t.isLt).2.2.1 (ix2 r k)
      = row (m ((c : Thread nD τ).loc main_arg0)) (m ((c : Thread nD τ).loc main_arg1)) (m ((c : Thread nD τ).loc main_arg2))
          ⟨t.val / 2 * 512 + r, by omega⟩ k) ∧
    (t.val / 2 % 4 ≠ 0 → ∀ (r : Fin 16) (k : Fin 1024), (outsAt0 m c t.val t.isLt).2.2.2 (ix2 r k)
      = row (m ((c : Thread nD τ).loc main_arg0)) (m ((c : Thread nD τ).loc main_arg1)) (m ((c : Thread nD τ).loc main_arg2))
          ⟨(t.val / 2 * 32 - 1) * 16 + r, by omega⟩ k) := by
  by_cases h0 : t.val % 2 = 0
  · exact kept_first m c t h0 hb
  · rw [kept_next m c t h0]
    have e : (t.val - 1) / 2 = t.val / 2 := by omega
    have f := kept_first m c ⟨t.val - 1, Nat.lt_of_le_of_lt (Nat.sub_le _ _) t.isLt⟩ (by show (t.val - 1) % 2 = 0; omega) (by show t.val - 1 < 64; omega)
    simp only [e] at f
    exact f

/-- A step's product with the first half's columns. -/
theorem dot_a (t : Fin cfg0.N) (hb : t.val < 64) (r : Fin 512) (n : Fin 1408) :
    dot (outsAt0 m c t.val t.isLt).2.2.1 (iblk m c 5 t) r n
    = up (m ((c : Thread nD τ).loc main_arg0)) (m ((c : Thread nD τ).loc main_arg1)) (m ((c : Thread nD τ).loc main_arg2))
        (m ((c : Thread nD τ).loc main_arg3)) ⟨t.val / 2 * 512 + r, by omega⟩ ⟨t.val % 2 * 1408 + n, by omega⟩ := by
  simp only [dot, up, (kept m c t hb).1, wa_at]

/-- A step's product with the second half's columns. -/
theorem dot_l (t : Fin cfg0.N) (hb : t.val < 64) (r : Fin 512) (n : Fin 1408) :
    dot (outsAt0 m c t.val t.isLt).2.2.1 (iblk m c 6 t) r n
    = up (m ((c : Thread nD τ).loc main_arg0)) (m ((c : Thread nD τ).loc main_arg1)) (m ((c : Thread nD τ).loc main_arg2))
        (m ((c : Thread nD τ).loc main_arg3)) ⟨t.val / 2 * 512 + r, by omega⟩ ⟨2816 + (t.val % 2 * 1408 + n), by omega⟩ := by
  simp only [dot, up, (kept m c t hb).1, wl_at]

/-- A step's product of the rows before its block. -/
theorem dot_p (t : Fin cfg0.N) (hb : t.val < 64) (h : t.val / 2 % 4 ≠ 0) (r : Fin 16) (n : Fin 1408) :
    dotp (outsAt0 m c t.val t.isLt).2.2.2 (iblk m c 5 t) r n
    = up (m ((c : Thread nD τ).loc main_arg0)) (m ((c : Thread nD τ).loc main_arg1)) (m ((c : Thread nD τ).loc main_arg2))
        (m ((c : Thread nD τ).loc main_arg3)) ⟨(t.val / 2 * 32 - 1) * 16 + r, by omega⟩ ⟨t.val % 2 * 1408 + n, by omega⟩ := by
  simp only [dotp, up, (kept m c t hb).2 h, wa_at]

/-- A step's convolution. -/
theorem cv_at (t : Fin cfg0.N) (hb : t.val < 64) (r : Fin 512) (n : Fin 1408) :
    cv (BitVec.ofNat 32 (grid0.coords t 0)) (outsAt0 m c t.val t.isLt).2.2.1 (outsAt0 m c t.val t.isLt).2.2.2 (iblk m c 5 t) (iblk m c 7 t)
      (iblk m c 8 t) r n
    = conv (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨t.val / 2 * 512 + r, by omega⟩ ⟨t.val % 2 * 1408 + n, by omega⟩ := by
  have e1 : (t.val / 2 * 512 + r.val) / 2048 = t.val / 8 := by omega
  have q2 : (if r.val = 0 then Scalar.select (first (BitVec.ofNat 32 (grid0.coords t 0))) (iblk m c 8 t (ix3 0 0 n))
          (dotp (outsAt0 m c t.val t.isLt).2.2.2 (iblk m c 5 t) 14 n)
        else if r.val = 1 then Scalar.select (first (BitVec.ofNat 32 (grid0.coords t 0))) (iblk m c 8 t (ix3 0 1 n))
          (dotp (outsAt0 m c t.val t.isLt).2.2.2 (iblk m c 5 t) 15 n)
        else dot (outsAt0 m c t.val t.isLt).2.2.1 (iblk m c 5 t) ⟨(r.val + 512 - 2) % 512, by omega⟩ n)
      = prev2 (m ((c : Thread nD τ).loc main_arg0)) (m ((c : Thread nD τ).loc main_arg1)) (m ((c : Thread nD τ).loc main_arg2))
        (m ((c : Thread nD τ).loc main_arg3)) (m ((c : Thread nD τ).loc main_arg5))
        ⟨t.val / 2 * 512 + r, by omega⟩ ⟨t.val % 2 * 1408 + n, by omega⟩ := by
    rw [first_eq t, sel_ite, sel_ite, prev2]
    simp only [e1, buf_at]
    by_cases h : t.val / 2 % 4 = 0
    · by_cases r0 : r.val = 0
      · rw [if_pos r0, if_pos h, if_pos (by omega)]
      · by_cases r1 : r.val = 1
        · rw [if_neg r0, if_pos r1, if_pos h, if_neg (by omega), if_pos (by omega)]
        · rw [if_neg r0, if_neg r1, if_neg (by omega), if_neg (by omega), dot_a m c t hb]
          refine congrArg (fun q => up _ _ _ _ q _) (Fin.ext ?_)
          show t.val / 2 * 512 + (r.val + 512 - 2) % 512 = t.val / 2 * 512 + r.val - 2
          omega
    · by_cases r0 : r.val = 0
      · rw [if_pos r0, if_neg h, if_neg (by omega), if_neg (by omega), dot_p m c t hb h]
        refine congrArg (fun q => up _ _ _ _ q _) (Fin.ext ?_)
        show (t.val / 2 * 32 - 1) * 16 + 14 = t.val / 2 * 512 + r.val - 2
        omega
      · by_cases r1 : r.val = 1
        · rw [if_neg r0, if_pos r1, if_neg h, if_neg (by omega), if_neg (by omega), dot_p m c t hb h]
          refine congrArg (fun q => up _ _ _ _ q _) (Fin.ext ?_)
          show (t.val / 2 * 32 - 1) * 16 + 15 = t.val / 2 * 512 + r.val - 2
          omega
        · rw [if_neg r0, if_neg r1, if_neg (by omega), if_neg (by omega), dot_a m c t hb]
          refine congrArg (fun q => up _ _ _ _ q _) (Fin.ext ?_)
          show t.val / 2 * 512 + (r.val + 512 - 2) % 512 = t.val / 2 * 512 + r.val - 2
          omega
  have q1 : (if r.val = 0 then Scalar.select (first (BitVec.ofNat 32 (grid0.coords t 0))) (iblk m c 8 t (ix3 0 1 n))
          (dotp (outsAt0 m c t.val t.isLt).2.2.2 (iblk m c 5 t) 15 n)
        else dot (outsAt0 m c t.val t.isLt).2.2.1 (iblk m c 5 t) ⟨(r.val + 512 - 1) % 512, by omega⟩ n)
      = prev1 (m ((c : Thread nD τ).loc main_arg0)) (m ((c : Thread nD τ).loc main_arg1)) (m ((c : Thread nD τ).loc main_arg2))
        (m ((c : Thread nD τ).loc main_arg3)) (m ((c : Thread nD τ).loc main_arg5))
        ⟨t.val / 2 * 512 + r, by omega⟩ ⟨t.val % 2 * 1408 + n, by omega⟩ := by
    rw [first_eq t, sel_ite, prev1]
    simp only [e1, buf_at]
    by_cases r0 : r.val = 0
    · by_cases h : t.val / 2 % 4 = 0
      · rw [if_pos r0, if_pos h, if_pos (by omega)]
      · rw [if_pos r0, if_neg h, if_neg (by omega), dot_p m c t hb h]
        refine congrArg (fun q => up _ _ _ _ q _) (Fin.ext ?_)
        show (t.val / 2 * 32 - 1) * 16 + 15 = t.val / 2 * 512 + r.val - 1
        omega
    · rw [if_neg r0, if_neg (by omega), dot_a m c t hb]
      refine congrArg (fun q => up _ _ _ _ q _) (Fin.ext ?_)
      show t.val / 2 * 512 + (r.val + 512 - 1) % 512 = t.val / 2 * 512 + r.val - 1
      omega
  rw [cv, q2, q1, dot_a m c t hb]
  simp only [cw_at]
  rfl

/-- The first array after the run. -/
theorem final : (dats m 0 c).arrAt 9 cfg0.N = out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 9 _ (by decide +kernel) fun t _ y => ?_
  blk_simp
  rw [after0_9]
  idx_vars y
  have hb := lt64 t
  rw [(results m c t).1, act_at, cv_at m c t hb, dot_l m c t hb]
  refine Eq.trans (b := out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (ix2 ⟨t.val / 2 * 512 + y0, by omega⟩ ⟨t.val % 2 * 1408 + y1, by omega⟩)) rfl ?_
  blk_ext [idx t]

/-- The second array after the run. -/
theorem final_tails : (dats m 0 c).arrAt 10 cfg0.N = tails (m ((c : Thread nD τ).loc main_arg0)) (m ((c : Thread nD τ).loc main_arg1))
    (m ((c : Thread nD τ).loc main_arg2)) (m ((c : Thread nD τ).loc main_arg3)) := by
  refine (dats m 0 c).arrAt_eq_of_covers 10 _ (by decide +kernel) fun t _ y => ?_
  blk_simp
  rw [after0_10]
  idx_vars y
  have hb := lt64 t
  obtain rfl : y0 = 0 := Subsingleton.elim _ _
  rw [(results m c t).2]
  rw [last_at, dot_a m c t hb]
  refine Eq.trans (b := tails (m ((c : Thread nD τ).loc main_arg0)) (m ((c : Thread nD τ).loc main_arg1))
    (m ((c : Thread nD τ).loc main_arg2)) (m ((c : Thread nD τ).loc main_arg3))
    (ix3 ⟨t.val / 2, by omega⟩ y1 ⟨t.val % 2 * 1408 + y2, by omega⟩)) ?_ ?_
  · refine congrArg (fun q => up _ _ _ _ q _) (Fin.ext ?_)
    show t.val / 2 * 512 + (510 + y1.val) = t.val / 2 * 512 + 510 + y1.val
    omega
  · blk_ext [idx t]

/-- The reference's first result of the same arguments is the first array after the run. -/
theorem same : Cert.UpReferenceIdeal.Read.val_main_v59 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) = (dats m 0 c).arrAt 9 cfg0.N := by
  rw [final]
  exact act_ref _ _ _ _ _ _

/-- The reference's second result of the same arguments is the second array after the run. -/
theorem same_tails : Cert.UpReferenceIdeal.Read.val_main_v57 (F := Ideal) (m ((c : Thread nD τ).loc main_arg0)) (m ((c : Thread nD τ).loc main_arg1))
    (m ((c : Thread nD τ).loc main_arg2)) (m ((c : Thread nD τ).loc main_arg3)) = (dats m 0 c).arrAt 10 cfg0.N := by
  rw [final_tails]
  exact tails_ref _ _ _ _

end Kernel

end Cert.Up
-- ==== Proof.UpClaim.lean ====
/- The feed-forward input's certificate: the frames, and that the kernel computes the reference's two results. -/
module

public import proofs.«01_k».proof.Defs
public import proofs.«01_k».proof.Proof.UpFinal
public import proofs.«01_k».proof.Proof.Gen.UpKernel.Frame

@[expose] public section

set_option maxRecDepth 16384
set_option maxHeartbeats 1600000

noncomputable section

namespace Cert.Up

open Idealize.ShloMosaic Idealize.ShloMosaic.TcCoe Idealize.SL.Sem

section
open Cert.UpReferenceIdeal Cert.UpReferenceIdeal.Gen Cert.UpReferenceIdeal.Read

/-- Every run of the reference ends with its results at their stages and its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = val_main_v59 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_v57) = val_main_v57 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v59_eq _ _), (h c).2.1.trans (val_main_v57_eq _ _ _ _), (h c).2.2⟩)
    (Cert.UpReferenceIdeal.Value.run m ρ)

end

/-- The kernel's frame. -/
theorem frame_kernel : Cert.quiescent_UpKernel := fun m ρ _ => Cert.UpKernel.Gen.frame m ρ

/-- The idealized kernel's frame. -/
theorem frame_ideal : Cert.quiescent_UpKernelIdeal := fun m ρ _ => Cert.UpKernelIdeal.Gen.frame m ρ

/-- The reference's frame. -/
theorem frame_reference : Cert.quiescent_UpReferenceIdeal := fun m ρ _ =>
  (θ_run Cert.UpReferenceIdeal.defs _ _).mono (fun r h => ⟨fun c => (h c).2.2, sem_eq_zero_of_no_sems (by decide) r.2⟩)
    (run_ref m ρ)

/-- The idealized kernel and the reference end with the same two results. -/
theorem algebraic : Cert.algebraic_UpKernelIdeal_UpReferenceIdeal := by
  pair_intro
  · run_from Cert.UpKernelIdeal.Gen.run_main m g
  · refine (θ_run Cert.UpReferenceIdeal.defs _ _).mono (fun r h c => ?_) (run_ref m' g')
    obtain ⟨e0, e1, k⟩ := h c
    obtain ⟨a0, a1, a2, a3, a4, a5⟩ := hagree c
    refine ⟨e0.trans ?_, e1.trans ?_, k⟩
    · rw [a0, a1, a2, a3, a4, a5]
      exact same m c
    · rw [a0, a1, a2, a3]
      exact same_tails m c

end Cert.Up

end
-- ==== Proof.Spec.lean ====
/- The call's four results as functions of its seven arguments, read by batch row, head, position and channel. -/
module

public import proofs.«01_k».proof.Proof.Rows

@[expose] public section

noncomputable section

namespace Cert.Mlstm

open Idealize.ShloMosaic

variable (z : Fin 32 → Fin 8 → Fin 7560 → EReal) (bi bf : Fin 4 → EReal) (g : Fin 256 → EReal)
  (c0 : Fin 32 → Fin 4 → Fin 64 → Fin 64 → EReal) (n0 : Fin 32 → Fin 4 → Fin 64 → EReal) (m0 : Fin 32 → Fin 4 → EReal)
  (B : Fin 32) (h : Fin 4)

/-- Head `h`'s query (0), unscaled key (1), value (2) or output gate (3). -/
def zpart (j : Fin 4) (t : Fin 8) (d : Fin 64) : EReal := z B t ⟨256 * j + 64 * h + d, by omega⟩

/-- Head `h`'s scaled key. -/
def zkey (t : Fin 8) (d : Fin 64) : EReal := zpart z B h 1 t d * Ideal.ofBits .f32 0x3E000000#32

/-- Head `h`'s log input gate. -/
def zli (s : Fin 8) : EReal := z B s ⟨1024 + h, by omega⟩ + bi h

/-- Head `h`'s log forget gate. -/
def zlf (s : Fin 8) : EReal := lsig (z B s ⟨1024 + (4 + h), by omega⟩ + bf h)

/-- Head `h`'s norm weights. -/
def zg (d : Fin 64) : EReal := g ⟨64 * h + d, by omega⟩

/-- The activation. -/
def actS (t : Fin 8) (d : Fin 64) : EReal :=
  act (zpart z B h 0) (zkey z B h) (zpart z B h 2) (zpart z B h 3) (zli z bi B h) (zlf z bf B h) (zg g h) (c0 B h) (n0 B h) (m0 B h) t d

/-- The matrix state. -/
def cS (d e : Fin 64) : EReal :=
  stC (zkey z B h) (zpart z B h 2) (zli z bi B h) (zlf z bf B h) (c0 B h) (m0 B h) d e

/-- The normaliser. -/
def nS (d : Fin 64) : EReal := stN (zkey z B h) (zli z bi B h) (zlf z bf B h) (n0 B h) (m0 B h) d

/-- The stabiliser. -/
def mS : EReal := mNew (zli z bi B h) (zlf z bf B h) (m0 B h)

/-- The activation by column: 64 channels to a head. -/
def actY (t : Fin 8) (x : Fin 256) : EReal :=
  actS z bi bf g c0 n0 m0 B ⟨x / 64, by omega⟩ t ⟨x % 64, Nat.mod_lt _ (by omega)⟩

end Cert.Mlstm
-- ==== Proof.Entry.lean ====
/- What the kernel's blocks hold of the arguments: the columns the host joins, and each step's block of them. -/
module
public import proofs.«01_k».proof.Proof.Gen.KernelIdeal.Value
public import Idealize.ShloMosaic.Lib.Pipeline.Value
public import Idealize.ShloMosaic.Lib.Pipeline.ValueKit
public import Idealize.ShloMosaic.Lib.Tactic
public import Idealize.ShloMosaic.Lib.Claim
public import Idealize.ShloMosaic.Lib.Pointwise
@[expose] public section
set_option maxRecDepth 16384
noncomputable section
namespace Cert.KernelIdeal.Val
open Idealize.ShloMosaic Idealize.ShloMosaic.TcCoe Idealize.SL.Sem
open Idealize.ShloMosaic.Pipeline (Dat)
open Cert.KernelIdeal Cert.KernelIdeal.Gen
variable (m : (ℓ : Loc nD τ sig) → Buf (Elt Ideal) ℓ)

/-- The block of each window at each step. -/
theorem idx : ∀ t : Fin cfg0.N, win0_0.index t = ![t.val, 0, 5] ∧ win0_1.index t = ![t.val, 0, 39] ∧ win0_2.index t = ![0, 0] ∧
    win0_3.index t = ![0, 0] ∧ win0_4.index t = ![t.val, 0, 0, 0] ∧ win0_5.index t = ![t.val, 0, 0, 0] ∧
    win0_6.index t = ![t.val, 0, 0, 0] ∧ win0_7.index t = ![t.val, 0, 0] ∧ win0_8.index t = ![t.val, 0, 0, 0] ∧
    win0_9.index t = ![t.val, 0, 0, 0] ∧ win0_10.index t = ![t.val, 0, 0, 0] ∧ t.val < 8 :=
  (by decide +kernel : ∀ t : Fin grid0.N, _)

/-- The batch row of the step's block row. -/
def row (t : Fin cfg0.N) (b : Fin 4) : Fin 32 := ⟨4 * t.val + b, by have := (idx t).2.2.2.2.2.2.2.2.2.2.2; omega⟩

/-- The step's block of the carried matrices. -/
theorem c0_at (c : Dev nD) (t : Fin cfg0.N) (b h : Fin 4) (d e : Fin 64) :
    iblk m c 4 t (ix4 b h d e) = m ((c : Thread nD τ).loc main_arg4) (ix4 (row t b) h d e) := by
  blk_ext [iblk, V_main_arg4, idx t, row]

/-- The third operand of the joined columns. -/
theorem cat_gate (a : FVec Ideal S32x8x4096 .f32) (b : FVec Ideal S32x8x896 .f32) (c : FVec Ideal S32x8x8 .f32)
    (d : FVec Ideal S32x8x120 .f32) (e : FVec Ideal S32x8x1024 .f32) (f g : FVec Ideal S32x8x768 .f32) (B : Fin 32) (s : Fin 8) (x : Fin 8) :
    concatenate S32x8x7680 2 [⟨S32x8x4096, a⟩, ⟨S32x8x896, b⟩, ⟨S32x8x8, c⟩, ⟨S32x8x120, d⟩, ⟨S32x8x1024, e⟩, ⟨S32x8x768, f⟩, ⟨S32x8x768, g⟩]
      concatenates_S32x8x4096_S32x8x896_S32x8x8_S32x8x120_S32x8x1024_S32x8x768_S32x8x768_S32x8x7680_d2 (ix3 B s ⟨4992 + x, by omega⟩) = c (ix3 B s x) := by
  pointwise []
  rw [dif_neg (by omega), dif_neg (by omega), dif_pos (by omega)]
  refine congrArg (fun x => c (ix3 B s x)) (Fin.ext ?_)
  simp only
  omega

/-- The fifth operand of the joined columns. -/
theorem cat_part (a : FVec Ideal S32x8x4096 .f32) (b : FVec Ideal S32x8x896 .f32) (c : FVec Ideal S32x8x8 .f32)
    (d : FVec Ideal S32x8x120 .f32) (e : FVec Ideal S32x8x1024 .f32) (f g : FVec Ideal S32x8x768 .f32) (B : Fin 32) (s : Fin 8) (x : Fin 1024) :
    concatenate S32x8x7680 2 [⟨S32x8x4096, a⟩, ⟨S32x8x896, b⟩, ⟨S32x8x8, c⟩, ⟨S32x8x120, d⟩, ⟨S32x8x1024, e⟩, ⟨S32x8x768, f⟩, ⟨S32x8x768, g⟩]
      concatenates_S32x8x4096_S32x8x896_S32x8x8_S32x8x120_S32x8x1024_S32x8x768_S32x8x768_S32x8x7680_d2 (ix3 B s ⟨5120 + x, by omega⟩) = e (ix3 B s x) := by
  pointwise []
  rw [dif_neg (by omega), dif_neg (by omega), dif_neg (by omega), dif_neg (by omega), dif_pos (by omega)]
  refine congrArg (fun x => e (ix3 B s x)) (Fin.ext ?_)
  simp only
  omega

/-- The joined columns after the operation, read in one of its operands. -/
theorem cat_gate_op (h1 h2) (F : Valuation τ sig (Elt Ideal)) (B : Fin 32) (s : Fin 8) (x : Fin 8) :
    (StableHlo.nary (τ := τ) ![main_v0, main_v1, main_v2, main_v3, main_v4, main_v5, main_v6] main_v7
      (fun u => concatenate S32x8x7680 2
        [⟨S32x8x4096, u 0⟩, ⟨S32x8x896, u 1⟩, ⟨S32x8x8, u 2⟩, ⟨S32x8x120, u 3⟩, ⟨S32x8x1024, u 4⟩, ⟨S32x8x768, u 5⟩, ⟨S32x8x768, u 6⟩]
        concatenates_S32x8x4096_S32x8x896_S32x8x8_S32x8x120_S32x8x1024_S32x8x768_S32x8x768_S32x8x7680_d2) h1 h2).result F
      (Proc.devRef .tc main_v7) (ix3 B s ⟨4992 + x, by omega⟩) = F (Proc.devRef .tc main_v2) (ix3 B s x) := by
  rw [StableHlo.nary_result]
  exact cat_gate _ _ _ _ _ _ _ B s x

/-- The joined columns that hold the gates are columns of the projected rows. -/
theorem V7_gate (c : Dev nD) (B : Fin 32) (s : Fin 8) (x : Fin 8) :
    V m c main_v7 (ix3 B s ⟨4992 + x, by omega⟩) = m ((c : Thread nD τ).loc main_arg0) (ix3 B s ⟨1024 + x, by omega⟩) := by
  show StableHlo.after hostOps0 _ _ _ = _
  simp only [StableHlo.after_cons, StableHlo.after_nil]
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  refine (cat_gate_op _ _ _ B s x).trans ?_
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  rw [StableHlo.unary_result]
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  pointwise []
  try rfl

/-- The joined columns after the operation, read in one of its operands. -/
theorem cat_part_op (h1 h2) (F : Valuation τ sig (Elt Ideal)) (B : Fin 32) (s : Fin 8) (x : Fin 1024) :
    (StableHlo.nary (τ := τ) ![main_v0, main_v1, main_v2, main_v3, main_v4, main_v5, main_v6] main_v7
      (fun u => concatenate S32x8x7680 2
        [⟨S32x8x4096, u 0⟩, ⟨S32x8x896, u 1⟩, ⟨S32x8x8, u 2⟩, ⟨S32x8x120, u 3⟩, ⟨S32x8x1024, u 4⟩, ⟨S32x8x768, u 5⟩, ⟨S32x8x768, u 6⟩]
        concatenates_S32x8x4096_S32x8x896_S32x8x8_S32x8x120_S32x8x1024_S32x8x768_S32x8x768_S32x8x7680_d2) h1 h2).result F
      (Proc.devRef .tc main_v7) (ix3 B s ⟨5120 + x, by omega⟩) = F (Proc.devRef .tc main_v4) (ix3 B s x) := by
  rw [StableHlo.nary_result]
  exact cat_part _ _ _ _ _ _ _ B s x

/-- The joined columns that hold the queries, keys, values and output gates are columns of the projected rows. -/
theorem V7_part (c : Dev nD) (B : Fin 32) (s : Fin 8) (x : Fin 1024) :
    V m c main_v7 (ix3 B s ⟨5120 + x, by omega⟩) = m ((c : Thread nD τ).loc main_arg0) (ix3 B s ⟨x, by omega⟩) := by
  show StableHlo.after hostOps0 _ _ _ = _
  simp only [StableHlo.after_cons, StableHlo.after_nil]
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  refine (cat_part_op _ _ _ B s x).trans ?_
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  rw [StableHlo.unary_result]
  repeat (first
    | (rw [StableHlo.nullary_result_ne]; rotate_left; decide)
    | (rw [StableHlo.unary_result_ne]; rotate_left; decide)
    | (rw [StableHlo.nary_result_ne]; rotate_left; decide)
    | (rw [StableHlo.reshape_result_ne]; rotate_left; decide))
  pointwise []
  try rfl

/-- The host reshapes the carried normaliser. -/
theorem V12_at (c : Dev nD) (B : Fin 32) (h : Fin 4) (d : Fin 64) :
    V m c main_v12 (ix4 B h 0 d) = m ((c : Thread nD τ).loc main_arg5) (ix3 B h d) := by
  entry_read
  pointwise []

/-- The host repeats the carried stabiliser along the lanes. -/
theorem V14_at (c : Dev nD) (B : Fin 32) (h : Fin 4) (l : Fin 128) :
    V m c main_v14 (ix4 B h 0 l) = m ((c : Thread nD τ).loc main_arg6) (ix2 B h) := by
  entry_read
  pointwise []

/-- The host reshapes the norm's weights. -/
theorem V11_at (c : Dev nD) (x : Fin 256) :
    V m c main_v11 (ix2 0 x) = m ((c : Thread nD τ).loc main_arg3) (ix1 x) := by
  entry_read
  pointwise []

/-- The host joins the two gates' biases. -/
theorem V10_at (c : Dev nD) (h : Fin 4) :
    V m c main_v10 (ix2 0 ⟨h, by omega⟩) = m ((c : Thread nD τ).loc main_arg1) (ix1 h) ∧
    V m c main_v10 (ix2 0 ⟨4 + h, by omega⟩) = m ((c : Thread nD τ).loc main_arg2) (ix1 h) := by
  constructor
  all_goals
    show StableHlo.after hostOps0 _ _ _ = _
    simp only [StableHlo.after_cons, StableHlo.after_nil]
    repeat (first
      | (rw [StableHlo.nullary_result_ne]; rotate_left; decide)
      | (rw [StableHlo.unary_result_ne]; rotate_left; decide)
      | (rw [StableHlo.nary_result_ne]; rotate_left; decide)
      | (rw [StableHlo.reshape_result_ne]; rotate_left; decide))
    rw [StableHlo.unary_result]
    pointwise []
    repeat (first
      | (rw [StableHlo.nullary_result_ne]; rotate_left; decide)
      | (rw [StableHlo.unary_result_ne]; rotate_left; decide)
      | (rw [StableHlo.nary_result_ne]; rotate_left; decide)
      | (rw [StableHlo.reshape_result_ne]; rotate_left; decide))
    rw [StableHlo.nary_result]
    beta_reduce
    pointwise []
    repeat (first
      | (rw [StableHlo.nullary_result_ne]; rotate_left; decide)
      | (rw [StableHlo.unary_result_ne]; rotate_left; decide)
      | (rw [StableHlo.nary_result_ne]; rotate_left; decide)
      | (rw [StableHlo.reshape_result_ne]; rotate_left; decide))

/-- The step's block of the gates. -/
theorem X1_at (c : Dev nD) (t : Fin cfg0.N) (b : Fin 4) (s x : Fin 8) :
    iblk m c 1 t (ix3 b s ⟨x, by omega⟩) = m ((c : Thread nD τ).loc main_arg0) (ix3 (row t b) s ⟨1024 + x, by omega⟩) := by
  refine Eq.trans ?_ (V7_gate m c (row t b) s x)
  blk_ext [iblk, idx t, row]

/-- The step's block of the queries, keys, values and output gates. -/
theorem X0_at (c : Dev nD) (t : Fin cfg0.N) (b : Fin 4) (s : Fin 8) (x : Fin 1024) :
    X0_0 m c t (ix3 b s x) = m ((c : Thread nD τ).loc main_arg0) (ix3 (row t b) s ⟨x, by omega⟩) := by
  refine Eq.trans ?_ (V7_part m c (row t b) s x)
  unfold X0_0 Pipeline.Window.fill
  rw [dif_pos (moved0_0 t _)]
  blk_ext [iblk, idx t, row]

/-- The step's biases. -/
theorem X2_at (c : Dev nD) (t : Fin cfg0.N) (h : Fin 4) :
    iblk m c 2 t (ix2 0 ⟨h, by omega⟩) = m ((c : Thread nD τ).loc main_arg1) (ix1 h) ∧
    iblk m c 2 t (ix2 0 ⟨4 + h, by omega⟩) = m ((c : Thread nD τ).loc main_arg2) (ix1 h) := by
  constructor
  · refine Eq.trans ?_ (V10_at m c h).1
    blk_ext [iblk, idx t, row]
  · refine Eq.trans ?_ (V10_at m c h).2
    blk_ext [iblk, idx t, row]

/-- The step's norm weights. -/
theorem X3_at (c : Dev nD) (t : Fin cfg0.N) (x : Fin 256) :
    iblk m c 3 t (ix2 0 x) = m ((c : Thread nD τ).loc main_arg3) (ix1 x) := by
  refine Eq.trans ?_ (V11_at m c x)
  blk_ext [iblk, idx t, row]

/-- The step's block of the carried normalisers. -/
theorem X5_at (c : Dev nD) (t : Fin cfg0.N) (b h : Fin 4) (d : Fin 64) :
    iblk m c 5 t (ix4 b h 0 d) = m ((c : Thread nD τ).loc main_arg5) (ix3 (row t b) h d) := by
  refine Eq.trans ?_ (V12_at m c (row t b) h d)
  blk_ext [iblk, idx t, row]

/-- The step's block of the carried stabilisers. -/
theorem X6_at (c : Dev nD) (t : Fin cfg0.N) (b h : Fin 4) :
    iblk m c 6 t (ix4 b h 0 0) = m ((c : Thread nD τ).loc main_arg6) (ix2 (row t b) h) := by
  refine Eq.trans ?_ (V14_at m c (row t b) h 0)
  blk_ext [iblk, idx t, row]

end Cert.KernelIdeal.Val
-- ==== Proof.Chain.lean ====
/- One (batch row, head) chain of the mLSTM kernel's body as vector functions of what the body loads for it: the
   sixteen chains of a block run the same operations, so each printed payload is one of these at its own loads. -/
module

public import proofs.«01_k».proof.Proof.Gen.KernelIdeal.Skeleton
public import Idealize.ShloMosaic.Lib.Pointwise

@[expose] public section

set_option maxRecDepth 16384

noncomputable section

namespace Cert.KernelIdeal.Chain

open Idealize.ShloMosaic Idealize.ShloMosaic.TcCoe Idealize.SL.Sem
open Cert.KernelIdeal Cert.KernelIdeal.Gen

variable {F : FTy → Type} [FloatOps F]

/-- The two gates' columns of one batch row: the projected columns plus the bias row. -/
def gates (z : Vec F S1x8x128 .f32) (b : Vec F S1x128 .f32) : FVec F S8x128 .f32 :=
  addf (shapeCast S8x128 z shapeCasts_S1x8x128_S8x128)
    (broadcastTo S8x128 (shapeCast S1x128 b shapeCasts_S1x128_S1x128) broadcasts_S1x128_S8x128)

/-- The log-sigmoid of every gate column, as `min(x, 0) − log(1 + exp(−|x|))`. -/
def logGates (g : FVec F S8x128 .f32) : FVec F S8x128 .f32 :=
  subf (minimumf g (broadcast S8x128 (Scalar.ofBits .f32 0x00000000#32)))
    (log (addf (broadcast S8x128 (Scalar.ofBits .f32 0x3F800000#32))
      (exp (subf (broadcast S8x128 (Scalar.ofBits .f32 0x00000000#32)) (absf g)))))

/-- A column laid out as a row, by a sum over the diagonal. -/
def asRow (x : FVec F S8x1 .f32) : FVec F S1x8 .f32 :=
  shapeCast S1x8 (multiReduction .add [0] S8
    (select (cmpi .eq (iota .tc S8x8 32 [0] iota_S8x8_d0_w32) (iota .tc S8x8 32 [1] iota_S8x8_d1_w32))
      (broadcastTo S8x8 (shapeCast S8x1 x shapeCasts_S8x1_S8x1) broadcasts_S8x1_S8x8)
      (broadcast S8x8 (Scalar.ofBits .f32 0x00000000#32)))
    0x00000000#32 reduces_S8x8_S8 (.inl rfl) rfl) shapeCasts_S8_S1x8

/-- The positions at or before a row's own. -/
def causal : IVec S8x8 1 :=
  cmpi .sle (iota .tc S8x8 32 [1] iota_S8x8_d1_w32) (iota .tc S8x8 32 [0] iota_S8x8_d0_w32)

/-- The running sum of the log forget gate, down a column. -/
def cumCol (lf : FVec F S8x1 .f32) : FVec F S8x1 .f32 :=
  shapeCast S8x1 (multiReduction .add [1] S8
    (select causal (broadcastTo S8x8 (shapeCast S1x8 (asRow lf) shapeCasts_S1x8_S1x8) broadcasts_S1x8_S8x8)
      (broadcast S8x8 (Scalar.ofBits .f32 0x00000000#32)))
    0x00000000#32 reduces_S8x8_S8_2 (.inl rfl) rfl) shapeCasts_S8_S8x1

/-- The same running sum, along a row. -/
def cumRow (lf : FVec F S8x1 .f32) : FVec F S1x8 .f32 :=
  shapeCast S1x8 (multiReduction .add [0] S8
    (select (cmpi .sle (iota .tc S8x8 32 [0] iota_S8x8_d0_w32) (iota .tc S8x8 32 [1] iota_S8x8_d1_w32))
      (broadcastTo S8x8 (shapeCast S8x1 lf shapeCasts_S8x1_S8x1) broadcasts_S8x1_S8x8)
      (broadcast S8x8 (Scalar.ofBits .f32 0x00000000#32)))
    0x00000000#32 reduces_S8x8_S8 (.inl rfl) rfl) shapeCasts_S8_S1x8

/-- The log weights of position pairs: −∞ past the causal edge. -/
def logW (li lf : FVec F S8x1 .f32) : FVec F S8x8 .f32 :=
  select causal
    (addf (subf (broadcastTo S8x8 (cumCol lf) broadcasts_S8x1_S8x8) (broadcastTo S8x8 (cumRow lf) broadcasts_S1x8_S8x8))
      (broadcastTo S8x8 (asRow li) broadcasts_S1x8_S8x8))
    (broadcast S8x8 (Scalar.ofBits .f32 0xFF800000#32))

/-- The stabiliser the chain starts from. -/
def mPrev (m : Vec F S1x1x1x128 .f32) : FVec F S1x1 .f32 :=
  extractStridedSlice S1x1 ![0, 0] (shapeCast S1x128 m shapeCasts_S1x1x1x128_S1x128) slices_S1x128_o0_0_S1x1

/-- The log weight of the incoming state at each position. -/
def inter (lf : FVec F S8x1 .f32) (m : Vec F S1x1x1x128 .f32) : FVec F S8x1 .f32 :=
  addf (cumCol lf) (broadcastTo S8x1 (mPrev m) broadcasts_S1x1_S8x1)

/-- The stabiliser of each position. -/
def mRow (li lf : FVec F S8x1 .f32) (m : Vec F S1x1x1x128 .f32) : FVec F S8x1 .f32 :=
  maximumf (shapeCast S8x1 (multiReduction .maximumf [1] S8 (logW li lf) 0xFF800000#32 reduces_S8x8_S8_2 (.inl rfl) rfl)
    shapeCasts_S8_S8x1) (inter lf m)

/-- The scaled key. -/
def keyS (k : Vec F S1x8x64 .f32) : FVec F S8x64 .f32 :=
  mulf (shapeCast S8x64 k shapeCasts_S1x8x64_S8x64) (broadcast S8x64 (Scalar.ofBits .f32 0x3E000000#32))

/-- The weights of position pairs times the scores. -/
def wts (q k : Vec F S1x8x64 .f32) (li lf : FVec F S8x1 .f32) (m : Vec F S1x1x1x128 .f32) : FVec F S8x8 .f32 :=
  mulf (exp (subf (logW li lf) (broadcastTo S8x8 (mRow li lf m) broadcasts_S8x1_S8x8)))
    (matmul dot_S8x64_S8x64_S8x8_1_1_0_0_n_n none
      (truncf .bf16 (shapeCast S8x64 q shapeCasts_S1x8x64_S8x64) bitsLt_bf16_f32) (truncf .bf16 (keyS k) bitsLt_bf16_f32)
      (constant S8x8 .f32 0x00000000#32))

/-- The weight of the incoming state at each position. -/
def aInt (li lf : FVec F S8x1 .f32) (m : Vec F S1x1x1x128 .f32) : FVec F S8x1 .f32 :=
  exp (subf (inter lf m) (mRow li lf m))

/-- The numerator: the weighted values plus the query through the incoming state. -/
def num (q k v : Vec F S1x8x64 .f32) (li lf : FVec F S8x1 .f32) (c : Vec F S1x1x64x64 .f32) (m : Vec F S1x1x1x128 .f32) :
    FVec F S8x64 .f32 :=
  addf (matmul dot_S8x8_S8x64_S8x64_1_0_0_1_n_n none (truncf .bf16 (wts q k li lf m) bitsLt_bf16_f32)
      (truncf .bf16 (shapeCast S8x64 v shapeCasts_S1x8x64_S8x64) bitsLt_bf16_f32) (constant S8x64 .f32 0x00000000#32))
    (mulf (broadcastTo S8x64 (aInt li lf m) broadcasts_S8x1_S8x64)
      (matmul dot_S8x64_S64x64_S8x64_1_0_0_1_n_n none
        (truncf .bf16 (shapeCast S8x64 q shapeCasts_S1x8x64_S8x64) bitsLt_bf16_f32)
        (truncf .bf16 (shapeCast S64x64 c shapeCasts_S1x1x64x64_S64x64) bitsLt_bf16_f32) (constant S8x64 .f32 0x00000000#32)))

/-- The denominator: the weights' row sums plus the query against the incoming normaliser. -/
def den (q k : Vec F S1x8x64 .f32) (li lf : FVec F S8x1 .f32) (n : Vec F S1x1x1x64 .f32) (m : Vec F S1x1x1x128 .f32) :
    FVec F S8x1 .f32 :=
  addf (shapeCast S8x1 (multiReduction .add [1] S8 (wts q k li lf m) 0x00000000#32 reduces_S8x8_S8_2 (.inl rfl) rfl)
      shapeCasts_S8_S8x1)
    (mulf (aInt li lf m)
      (shapeCast S8x1 (multiReduction .add [1] S8
        (mulf (shapeCast S8x64 q shapeCasts_S1x8x64_S8x64)
          (broadcastTo S8x64 (shapeCast S1x64 n shapeCasts_S1x1x1x64_S1x64) broadcasts_S1x64_S8x64))
        0x00000000#32 reduces_S8x64_S8 (.inl rfl) rfl) shapeCasts_S8_S8x1))

/-- The hidden row. -/
def hid (q k v : Vec F S1x8x64 .f32) (li lf : FVec F S8x1 .f32) (c : Vec F S1x1x64x64 .f32) (n : Vec F S1x1x1x64 .f32)
    (m : Vec F S1x1x1x128 .f32) : FVec F S8x64 .f32 :=
  divf (num q k v li lf c m)
    (broadcastTo S8x64 (maximumf (absf (den q k li lf n m))
      (exp (subf (broadcast S8x1 (Scalar.ofBits .f32 0x00000000#32)) (mRow li lf m)))) broadcasts_S8x1_S8x64)

/-- The normalised hidden row, from the hidden row. -/
def nrm (h : FVec F S8x64 .f32) : FVec F S8x64 .f32 :=
  mulf h (broadcastTo S8x64 (rsqrt (addf (divf
    (shapeCast S8x1 (multiReduction .add [1] S8 (mulf h h) 0x00000000#32 reduces_S8x64_S8 (.inl rfl) rfl) shapeCasts_S8_S8x1)
    (broadcast S8x1 (Scalar.ofBits .f32 0x42800000#32))) (broadcast S8x1 (Scalar.ofBits .f32 0x358637BD#32))))
    broadcasts_S8x1_S8x64)

/-- What the chain stores of its activation. -/
def act (q k v o : Vec F S1x8x64 .f32) (li lf : FVec F S8x1 .f32) (g : Vec F S1x64 .f32) (c : Vec F S1x1x64x64 .f32)
    (n : Vec F S1x1x1x64 .f32) (m : Vec F S1x1x1x128 .f32) : FVec F S1x8x64 .f32 :=
  shapeCast S1x8x64 (mulf (mulf (nrm (hid q k v li lf c n m))
      (broadcastTo S8x64 (shapeCast S1x64 g shapeCasts_S1x64_S1x64) broadcasts_S1x64_S8x64))
    (addf (mulf (broadcast S8x64 (Scalar.ofBits .f32 0x3F000000#32))
      (tanh (mulf (broadcast S8x64 (Scalar.ofBits .f32 0x3F000000#32)) (shapeCast S8x64 o shapeCasts_S1x8x64_S8x64))))
      (broadcast S8x64 (Scalar.ofBits .f32 0x3F000000#32)))) shapeCasts_S8x64_S1x8x64

/-- The running sum's last entry. -/
def bEnd (lf : FVec F S8x1 .f32) : FVec F S1x1 .f32 :=
  shapeCast S1x1 (multiReduction .add [0] S1
    (select (cmpi .eq (iota .tc S8x1 32 [0] iota_S8x1_d0_w32) (broadcast S8x1 7#32)) (cumCol lf)
      (broadcast S8x1 (Scalar.ofBits .f32 0x00000000#32)))
    0x00000000#32 reduces_S8x1_S1 (.inl rfl) rfl) shapeCasts_S1_S1x1

/-- The log weight of each position in the outgoing state. -/
def gCol (li lf : FVec F S8x1 .f32) : FVec F S8x1 .f32 :=
  addf (subf (broadcastTo S8x1 (bEnd lf) broadcasts_S1x1_S8x1) (cumCol lf)) li

/-- The outgoing stabiliser. -/
def mNew (li lf : FVec F S8x1 .f32) (m : Vec F S1x1x1x128 .f32) : FVec F S1x1 .f32 :=
  maximumf (addf (bEnd lf) (mPrev m))
    (shapeCast S1x1 (multiReduction .maximumf [0] S1 (gCol li lf) 0xFF800000#32 reduces_S8x1_S1 (.inl rfl) rfl)
      shapeCasts_S1_S1x1)

/-- What the incoming state is multiplied by. -/
def decay (li lf : FVec F S8x1 .f32) (m : Vec F S1x1x1x128 .f32) : FVec F S1x1 .f32 :=
  exp (subf (addf (bEnd lf) (mPrev m)) (mNew li lf m))

/-- The weighted scaled keys. -/
def wKey (k : Vec F S1x8x64 .f32) (li lf : FVec F S8x1 .f32) (m : Vec F S1x1x1x128 .f32) : FVec F S8x64 .f32 :=
  mulf (broadcastTo S8x64 (exp (subf (gCol li lf) (broadcastTo S8x1 (mNew li lf m) broadcasts_S1x1_S8x1)))
    broadcasts_S8x1_S8x64) (keyS k)

/-- What the chain stores of its matrix state. -/
def stC (k v : Vec F S1x8x64 .f32) (li lf : FVec F S8x1 .f32) (c : Vec F S1x1x64x64 .f32) (m : Vec F S1x1x1x128 .f32) :
    FVec F S1x1x64x64 .f32 :=
  shapeCast S1x1x64x64 (addf
    (mulf (broadcastTo S64x64 (decay li lf m) broadcasts_S1x1_S64x64) (shapeCast S64x64 c shapeCasts_S1x1x64x64_S64x64))
    (matmul dot_S8x64_S8x64_S64x64_0_0_1_1_n_n none (truncf .bf16 (wKey k li lf m) bitsLt_bf16_f32)
      (truncf .bf16 (shapeCast S8x64 v shapeCasts_S1x8x64_S8x64) bitsLt_bf16_f32) (constant S64x64 .f32 0x00000000#32)))
    shapeCasts_S64x64_S1x1x64x64

/-- What the chain stores of its normaliser. -/
def stN (k : Vec F S1x8x64 .f32) (li lf : FVec F S8x1 .f32) (n : Vec F S1x1x1x64 .f32) (m : Vec F S1x1x1x128 .f32) :
    FVec F S1x1x1x64 .f32 :=
  shapeCast S1x1x1x64 (addf
    (mulf (broadcastTo S1x64 (decay li lf m) broadcasts_S1x1_S1x64) (shapeCast S1x64 n shapeCasts_S1x1x1x64_S1x64))
    (shapeCast S1x64 (multiReduction .add [0] S64 (wKey k li lf m) 0x00000000#32 reduces_S8x64_S64 (.inl rfl) rfl)
      shapeCasts_S64_S1x64)) shapeCasts_S1x64_S1x1x1x64

/-- What the chain stores of its stabiliser: one value in every lane. -/
def stM (li lf : FVec F S8x1 .f32) (m : Vec F S1x1x1x128 .f32) : FVec F S1x1x1x128 .f32 :=
  shapeCast S1x1x1x128 (broadcastTo S1x128 (shapeCast S1x1 (mNew li lf m) shapeCasts_S1x1_S1x1) broadcasts_S1x1_S1x128)
    shapeCasts_S1x128_S1x1x1x128

end Cert.KernelIdeal.Chain

end
-- ==== Proof.ChainAt.lean ====
/- The chain's vector functions read at an index, over the extended reals: the formulas of `Proof.Rows`. -/
module

public import proofs.«01_k».proof.Proof.Chain
public import proofs.«01_k».proof.Proof.Rows

@[expose] public section

set_option maxRecDepth 16384
set_option maxHeartbeats 1600000

noncomputable section

namespace Cert.KernelIdeal.Chain

open Idealize.ShloMosaic Idealize.ShloMosaic.TcCoe Idealize.SL.Sem
open Cert.KernelIdeal Cert.KernelIdeal.Gen

/-- A gate column's log-sigmoid. -/
theorem logGates_at (g : FVec Ideal S8x128 .f32) (a : Fin 8) (b : Fin 128) :
    logGates g (ix2 a b) = Mlstm.lsig (g (ix2 a b)) := by
  pointwise [logGates]
  rfl

/-- The gates' columns: projected plus bias. -/
theorem gates_at (z : Vec Ideal S1x8x128 .f32) (w : Vec Ideal S1x128 .f32) (a : Fin 8) (b : Fin 128) :
    gates z w (ix2 a b) = (show EReal from z (ix3 0 a b)) + (show EReal from w (ix2 0 b)) := by
  pointwise [gates]

/-- The column as a row reads the column. -/
theorem asRow_at (x : FVec Ideal S8x1 .f32) (a : Fin 1) (s : Fin 8) : asRow x (ix2 a s) = x (ix2 s 0) := by
  pointwise [asRow]
  simp only [Mlstm.cmp_eq, Mlstm.sel_ite]
  rw [Finset.sum_ite_eq' Finset.univ s]
  simp

/-- The running sum down a column. -/
theorem cumCol_at (lf : FVec Ideal S8x1 .f32) (t : Fin 8) (b : Fin 1) :
    cumCol lf (ix2 t b) = Mlstm.cum (fun s => lf (ix2 s 0)) t := by
  pointwise [cumCol, causal]
  simp only [asRow_at, Mlstm.cmp_le, Mlstm.sel_ite]
  rfl

/-- The running sum along a row. -/
theorem cumRow_at (lf : FVec Ideal S8x1 .f32) (t : Fin 8) (a : Fin 1) :
    cumRow lf (ix2 a t) = Mlstm.cum (fun s => lf (ix2 s 0)) t := by
  pointwise [cumRow]
  simp only [Mlstm.cmp_le, Mlstm.sel_ite]
  rfl

/-- The log weights. -/
theorem logW_at (li lf : FVec Ideal S8x1 .f32) (t s : Fin 8) :
    logW li lf (ix2 t s) = Mlstm.dw (fun s => li (ix2 s 0)) (fun s => lf (ix2 s 0)) t s := by
  pointwise [logW, causal]
  simp only [asRow_at, cumCol_at, cumRow_at, Mlstm.cmp_le, Mlstm.sel_ite]
  rfl

/-- The incoming stabiliser. -/
theorem mPrev_at (m : Vec Ideal S1x1x1x128 .f32) (a b : Fin 1) : mPrev m (ix2 a b) = m (ix4 0 0 0 0) := by
  pointwise [mPrev]

/-- The incoming state's log weight. -/
theorem inter_at (lf : FVec Ideal S8x1 .f32) (m : Vec Ideal S1x1x1x128 .f32) (t : Fin 8) (b : Fin 1) :
    inter lf m (ix2 t b) = Mlstm.cum (fun s => lf (ix2 s 0)) t + (show EReal from m (ix4 0 0 0 0)) := by
  pointwise [inter, mPrev]
  simp only [cumCol_at]

/-- The stabiliser of a position. -/
theorem mRow_at (li lf : FVec Ideal S8x1 .f32) (m : Vec Ideal S1x1x1x128 .f32) (t : Fin 8) (b : Fin 1) :
    mRow li lf m (ix2 t b) = Mlstm.mrow (fun s => li (ix2 s 0)) (fun s => lf (ix2 s 0)) (m (ix4 0 0 0 0)) t := by
  pointwise [mRow]
  simp only [logW_at, inter_at]
  rfl

/-- The scaled key. -/
theorem keyS_at (k : Vec Ideal S1x8x64 .f32) (s : Fin 8) (d : Fin 64) :
    keyS k (ix2 s d) = (show EReal from k (ix3 0 s d)) * Ideal.ofBits .f32 0x3E000000#32 := by
  pointwise [keyS]

section
variable (q k v o : Vec Ideal S1x8x64 .f32) (li lf : FVec Ideal S8x1 .f32) (g : Vec Ideal S1x64 .f32)
  (c : Vec Ideal S1x1x64x64 .f32) (n : Vec Ideal S1x1x1x64 .f32) (m : Vec Ideal S1x1x1x128 .f32)

/-- A loaded block of rows as a family of rows. -/
abbrev rows (x : Vec Ideal S1x8x64 .f32) : Fin 8 → Fin 64 → EReal := fun t d => x (ix3 0 t d)
/-- The scaled keys as a family of rows. -/
abbrev keys (x : Vec Ideal S1x8x64 .f32) : Fin 8 → Fin 64 → EReal :=
  fun t d => (show EReal from x (ix3 0 t d)) * Ideal.ofBits .f32 0x3E000000#32
/-- A column as a family. -/
abbrev col (x : FVec Ideal S8x1 .f32) : Fin 8 → EReal := fun s => x (ix2 s 0)

/-- The weights. -/
theorem wts_at (t s : Fin 8) :
    wts q k li lf m (ix2 t s) = Mlstm.wt (rows q) (keys k) (col li) (col lf) (m (ix4 0 0 0 0)) t s := by
  pointwise [wts]
  simp only [logW_at, mRow_at, keyS_at]
  rfl

/-- The incoming state's weight. -/
theorem aInt_at (t : Fin 8) (b : Fin 1) :
    aInt li lf m (ix2 t b) = Mlstm.ai (col li) (col lf) (m (ix4 0 0 0 0)) t := by
  pointwise [aInt]
  simp only [inter_at, mRow_at]
  rfl

/-- The numerator. -/
theorem num_at (t : Fin 8) (e : Fin 64) :
    num q k v li lf c m (ix2 t e) = Mlstm.nu (rows q) (keys k) (rows v) (col li) (col lf) (fun d e => c (ix4 0 0 d e))
      (m (ix4 0 0 0 0)) t e := by
  pointwise [num]
  simp only [wts_at, aInt_at]
  rfl

/-- The denominator. -/
theorem den_at (t : Fin 8) (b : Fin 1) :
    den q k li lf n m (ix2 t b) = Mlstm.de (rows q) (keys k) (col li) (col lf) (fun d => n (ix4 0 0 0 d))
      (m (ix4 0 0 0 0)) t := by
  pointwise [den]
  simp only [wts_at, aInt_at]
  rfl

/-- The hidden row. -/
theorem hid_at (t : Fin 8) (e : Fin 64) :
    hid q k v li lf c n m (ix2 t e) = Mlstm.hid (rows q) (keys k) (rows v) (col li) (col lf) (fun d e => c (ix4 0 0 d e))
      (fun d => n (ix4 0 0 0 d)) (m (ix4 0 0 0 0)) t e := by
  pointwise [hid]
  simp only [num_at, den_at, mRow_at]
  rfl

/-- The activation stored. -/
theorem act_at (a : Fin 1) (t : Fin 8) (e : Fin 64) :
    act q k v o li lf g c n m (ix3 a t e) = Mlstm.act (rows q) (keys k) (rows v) (rows o) (col li) (col lf)
      (fun d => g (ix2 0 d)) (fun d e => c (ix4 0 0 d e)) (fun d => n (ix4 0 0 0 d)) (m (ix4 0 0 0 0)) t e := by
  pointwise [act, nrm]
  simp only [hid_at]
  rfl

/-- The running sum's last entry. -/
theorem bEnd_at (a b : Fin 1) : bEnd lf (ix2 a b) = Mlstm.cum (col lf) 7 := by
  pointwise [bEnd]
  have h : ∀ x : Fin 8, IntOp.cmpi CmpIPredicate.eq (BitVec.ofNat 32 x) 7#32 = if x = 7 then 1#1 else 0#1 := by decide
  simp only [h, cumCol_at, Mlstm.sel_ite]
  rw [Finset.sum_ite_eq' Finset.univ (7 : Fin 8)]
  simp

/-- The positions' log weights in the outgoing state. -/
theorem gCol_at (s : Fin 8) (b : Fin 1) : gCol li lf (ix2 s b) = Mlstm.gl (col li) (col lf) s := by
  pointwise [gCol]
  simp only [bEnd_at, cumCol_at]
  obtain rfl : b = 0 := Subsingleton.elim _ _
  rfl

/-- The outgoing stabiliser. -/
theorem mNew_at (a b : Fin 1) : mNew li lf m (ix2 a b) = Mlstm.mNew (col li) (col lf) (m (ix4 0 0 0 0)) := by
  pointwise [mNew]
  simp only [bEnd_at, mPrev_at, gCol_at]
  rfl

/-- What the incoming state is multiplied by. -/
theorem decay_at (a b : Fin 1) : decay li lf m (ix2 a b) = Mlstm.dec (col li) (col lf) (m (ix4 0 0 0 0)) := by
  pointwise [decay]
  simp only [bEnd_at, mPrev_at, mNew_at]
  rfl

/-- The weighted keys. -/
theorem wKey_at (s : Fin 8) (d : Fin 64) :
    wKey k li lf m (ix2 s d) = Mlstm.wk (keys k) (col li) (col lf) (m (ix4 0 0 0 0)) s d := by
  pointwise [wKey]
  simp only [gCol_at, mNew_at, keyS_at]
  rfl

/-- The matrix state stored. -/
theorem stC_at (a b : Fin 1) (d e : Fin 64) :
    stC k v li lf c m (ix4 a b d e) = Mlstm.stC (keys k) (rows v) (col li) (col lf) (fun d e => c (ix4 0 0 d e))
      (m (ix4 0 0 0 0)) d e := by
  pointwise [stC]
  simp only [decay_at, wKey_at]
  rfl

/-- The normaliser stored. -/
theorem stN_at (a b r : Fin 1) (d : Fin 64) :
    stN k li lf n m (ix4 a b r d) = Mlstm.stN (keys k) (col li) (col lf) (fun d => n (ix4 0 0 0 d)) (m (ix4 0 0 0 0)) d := by
  pointwise [stN]
  simp only [decay_at, wKey_at]
  rfl

/-- The stabiliser stored. -/
theorem stM_at (a b r : Fin 1) (l : Fin 128) :
    stM li lf m (ix4 a b r l) = Mlstm.mNew (col li) (col lf) (m (ix4 0 0 0 0)) := by
  pointwise [stM]
  simp only [mNew_at]

end

end Cert.KernelIdeal.Chain

end
-- ==== Proof.Reads.lean ====
/- The chain's stored pieces, from what its loads read as. -/
module

public import proofs.«01_k».proof.Proof.ChainAt
public import Idealize.ShloMosaic.Lib.Pipeline.Value
public import Idealize.ShloMosaic.Lib.Pipeline.ValueKit

@[expose] public section

noncomputable section

namespace Cert.KernelIdeal.Chain

open Idealize.ShloMosaic Idealize.ShloMosaic.TcCoe Idealize.SL.Sem
open Cert.KernelIdeal Cert.KernelIdeal.Gen

/-- A load back of covered writes reads the canonical contents through the rectangle. -/
theorem readCov_ld {sig : RefSig} {κ : Kind} {sp : Space} {s : Shape} {e : EltTy} {Val : EltTy → Type}
    [∀ e, Nonempty (Val e)] (v : View sig κ sp s e) (L : List (View.Piece Val s e)) (r : Rect s) :
    v.readCov L r.toLoadRect = View.ld (View.canon L) r :=
  View.readCov_eq_canon' v L r.toLoadRect

/-- Where the first `n` pieces hold an index, the later ones do not matter. -/
theorem canon_take {s : Shape} {e : EltTy} {Val : EltTy → Type} [∀ e, Nonempty (Val e)] (n : Nat) :
    ∀ (L : List (View.Piece Val s e)) (y : s.Idx), (∃ p ∈ L.take n, y ∈ p.1.set) → View.canon L y = View.canon (L.take n) y := by
  induction n with
  | zero => intro L y h; simp at h
  | succ n ih =>
    intro L y h
    match L with
    | [] => simp at h
    | p :: L =>
      rw [List.take_succ_cons] at h ⊢
      by_cases hy : y ∈ p.1.set
      · rw [← Rect.map_emb_univ] at hy
        obtain ⟨x, -, rfl⟩ := Finset.mem_map.mp hy
        rw [View.canon_cons, View.canon_cons, Rect.overlay_emb, Rect.overlay_emb]
      · rw [View.canon_cons_of_not_mem p L hy, View.canon_cons_of_not_mem p _ hy]
        refine ih L y ?_
        obtain ⟨q, hq, hyq⟩ := h
        rcases List.mem_cons.mp hq with rfl | hq
        · exact absurd hyq hy
        · exact ⟨q, hq, hyq⟩

section
variable {q k v o : Vec Ideal S1x8x64 .f32} {li lf : FVec Ideal S8x1 .f32} {g : Vec Ideal S1x64 .f32}
  {c : Vec Ideal S1x1x64x64 .f32} {n : Vec Ideal S1x1x1x64 .f32} {m : Vec Ideal S1x1x1x128 .f32}
  {Q K V O : Fin 8 → Fin 64 → EReal} {LI LF : Fin 8 → EReal} {G : Fin 64 → EReal} {C : Fin 64 → Fin 64 → EReal}
  {N : Fin 64 → EReal} {M : EReal}

/-- The stabiliser piece. -/
theorem stM_read (x : S1x1x1x128.Idx) (hli : ∀ s : Fin 8, li (ix2 s 0) = LI s) (hlf : ∀ s : Fin 8, lf (ix2 s 0) = LF s)
    (hm : m (ix4 0 0 0 0) = M) : stM li lf m x = Mlstm.mNew LI LF M := by
  obtain rfl : (fun s => li (ix2 s 0)) = LI := funext hli
  obtain rfl : (fun s => lf (ix2 s 0)) = LF := funext hlf
  subst hm
  idx_vars x
  exact stM_at ..

/-- The normaliser piece. -/
theorem stN_read (x : S1x1x1x64.Idx) (hk : ∀ t d, (show EReal from k (ix3 0 t d)) * Ideal.ofBits .f32 0x3E000000#32 = K t d)
    (hli : ∀ s : Fin 8, li (ix2 s 0) = LI s) (hlf : ∀ s : Fin 8, lf (ix2 s 0) = LF s)
    (hn : ∀ d, n (ix4 0 0 0 d) = N d) (hm : m (ix4 0 0 0 0) = M) (d : Fin 64) (hd : (x 3 : Nat) = d) :
    stN k li lf n m x = Mlstm.stN K LI LF N M d := by
  obtain rfl : (fun s => li (ix2 s 0)) = LI := funext hli
  obtain rfl : (fun s => lf (ix2 s 0)) = LF := funext hlf
  obtain rfl : keys k = K := funext fun t => funext fun d => hk t d
  obtain rfl : (fun d => n (ix4 0 0 0 d)) = N := funext hn
  subst hm
  obtain rfl : x 3 = d := Fin.ext hd
  rw [eq_ix4 x]
  exact stN_at ..

/-- The matrix state piece. -/
theorem stC_read (x : S1x1x64x64.Idx) (hk : ∀ t d, (show EReal from k (ix3 0 t d)) * Ideal.ofBits .f32 0x3E000000#32 = K t d)
    (hv : ∀ t d, v (ix3 0 t d) = V t d)
    (hli : ∀ s : Fin 8, li (ix2 s 0) = LI s) (hlf : ∀ s : Fin 8, lf (ix2 s 0) = LF s)
    (hc : ∀ d e, c (ix4 0 0 d e) = C d e) (hm : m (ix4 0 0 0 0) = M) (d e : Fin 64) (hd : (x 2 : Nat) = d)
    (he : (x 3 : Nat) = e) : stC k v li lf c m x = Mlstm.stC K V LI LF C M d e := by
  obtain rfl : (fun s => li (ix2 s 0)) = LI := funext hli
  obtain rfl : (fun s => lf (ix2 s 0)) = LF := funext hlf
  obtain rfl : keys k = K := funext fun t => funext fun d => hk t d
  obtain rfl : rows v = V := funext fun t => funext fun d => hv t d
  obtain rfl : (fun d e => c (ix4 0 0 d e)) = C := funext fun d => funext fun e => hc d e
  subst hm
  obtain rfl : x 2 = d := Fin.ext hd
  obtain rfl : x 3 = e := Fin.ext he
  rw [eq_ix4 x]
  exact stC_at ..

/-- The activation piece. -/
theorem act_read (x : S1x8x64.Idx) (hq : ∀ t d, q (ix3 0 t d) = Q t d)
    (hk : ∀ t d, (show EReal from k (ix3 0 t d)) * Ideal.ofBits .f32 0x3E000000#32 = K t d)
    (hv : ∀ t d, v (ix3 0 t d) = V t d) (ho : ∀ t d, o (ix3 0 t d) = O t d)
    (hli : ∀ s : Fin 8, li (ix2 s 0) = LI s) (hlf : ∀ s : Fin 8, lf (ix2 s 0) = LF s) (hg : ∀ d, g (ix2 0 d) = G d)
    (hc : ∀ d e, c (ix4 0 0 d e) = C d e) (hn : ∀ d, n (ix4 0 0 0 d) = N d) (hm : m (ix4 0 0 0 0) = M)
    (t : Fin 8) (d : Fin 64) (ht : (x 1 : Nat) = t) (hd : (x 2 : Nat) = d) :
    act q k v o li lf g c n m x = Mlstm.act Q K V O LI LF G C N M t d := by
  obtain rfl : (fun s => li (ix2 s 0)) = LI := funext hli
  obtain rfl : (fun s => lf (ix2 s 0)) = LF := funext hlf
  obtain rfl : (fun d => g (ix2 0 d)) = G := funext hg
  obtain rfl : rows q = Q := funext fun t => funext fun d => hq t d
  obtain rfl : keys k = K := funext fun t => funext fun d => hk t d
  obtain rfl : rows v = V := funext fun t => funext fun d => hv t d
  obtain rfl : rows o = O := funext fun t => funext fun d => ho t d
  obtain rfl : (fun d e => c (ix4 0 0 d e)) = C := funext fun d => funext fun e => hc d e
  obtain rfl : (fun d => n (ix4 0 0 0 d)) = N := funext hn
  subst hm
  obtain rfl : x 1 = t := Fin.ext ht
  obtain rfl : x 2 = d := Fin.ext hd
  rw [eq_ix3 x]
  exact act_at ..

end

/-! ## One block's chains, from the block's arrays -/

section
variable (X0 : S4x8x1024.Idx → EReal) (X1 : S4x8x128.Idx → EReal) (X2 : S1x128.Idx → EReal) (X3 : S1x256.Idx → EReal)
  (X4 : S4x4x64x64.Idx → EReal) (X5 : S4x4x1x64.Idx → EReal) (X6 : S4x4x1x128.Idx → EReal) (b h : Fin 4)

/-- Column `256 j + 64 h + d` of the block's projected columns. -/
def part (j : Fin 4) (t : Fin 8) (d : Fin 64) : EReal := X0 (ix3 b t ⟨256 * j + 64 * h + d, by omega⟩)
/-- The scaled key. -/
def key (t : Fin 8) (d : Fin 64) : EReal := part X0 b h 1 t d * Ideal.ofBits .f32 0x3E000000#32
variable {X0 b h} in
/-- A column of the projected columns, by its number. -/
theorem part_eq {j : Fin 4} {t : Fin 8} {d : Fin 64} {x : Fin 1024} (hx : (x : Nat) = 256 * j + 64 * h + d) :
    X0 (ix3 b t x) = part X0 b h j t d :=
  congrArg (fun x => X0 (ix3 b t x)) (Fin.ext hx)
variable {X0 b h} in
/-- A scaled column of the projected columns, by its number. -/
theorem key_eq {t : Fin 8} {d : Fin 64} {x : Fin 1024} (hx : (x : Nat) = 256 * (1 : Fin 4) + 64 * h + d) :
    X0 (ix3 b t x) * Ideal.ofBits .f32 0x3E000000#32 = key X0 b h t d :=
  congrArg (· * Ideal.ofBits .f32 0x3E000000#32) (part_eq hx)
/-- The input gate's column. -/
def liB (s : Fin 8) : EReal := X1 (ix3 b s ⟨h, by omega⟩) + X2 (ix2 0 ⟨h, by omega⟩)
/-- The forget gate's log-sigmoid. -/
def lfB (s : Fin 8) : EReal := Mlstm.lsig (X1 (ix3 b s ⟨4 + h, by omega⟩) + X2 (ix2 0 ⟨4 + h, by omega⟩))
/-- The norm gain of a head. -/
def gB (d : Fin 64) : EReal := X3 (ix2 0 ⟨64 * h + d, by omega⟩)
variable {X3 h} in
/-- A norm gain, by its column. -/
theorem gB_eq {d : Fin 64} {x : Fin 256} (hx : (x : Nat) = 64 * h + d) : X3 (ix2 0 x) = gB X3 h d :=
  congrArg (fun x => X3 (ix2 0 x)) (Fin.ext hx)

end

end Cert.KernelIdeal.Chain

end
-- ==== Proof.Pieces.lean ====
/- What one grid step leaves in the blocks of the four results, at an index. -/
module

public import proofs.«01_k».proof.Proof.Gen.KernelIdeal.Value
public import Idealize.ShloMosaic.Lib.Tactic
public import proofs.«01_k».proof.Proof.Reads

@[expose] public section

set_option maxRecDepth 16384
set_option maxHeartbeats 1600000

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Chain

variable (m : (ℓ : Loc nD τ sig) → Buf (Elt Ideal) ℓ)

/-- The stabiliser of one batch row and head. -/
theorem out_m (c : Dev nD) (t : Fin cfg0.N) (b h : Fin 4) (r : Fin 1) (l : Fin 128) :
    (outsAt0 m c t).2.2.2 (ix4 b h r l) =
      Mlstm.mNew (liB (iblk m c 1 t) (iblk m c 2 t) b h) (lfB (iblk m c 1 t) (iblk m c 2 t) b h)
        (iblk m c 6 t (ix4 b h 0 0)) := by
  unfold outsAt0
  dsimp only
  frame_out [Chain.readCov_ld]
  rw [Chain.canon_take 16]
  rotate_left
  · simp only [List.take]; exact View.cover_of_tiled_head _ _ _ (by rfl) _
  simp only [List.take]
  obtain ⟨b, hb⟩ := b
  obtain ⟨h, hh⟩ := h
  canon_tiles y g
  all_goals
    have y0 : (y 0 : Nat) = 0 := by omega
    have y1 : (y 1 : Nat) = 0 := by omega
    rw [y0] at g0
    rw [y1] at g1
    change b = _ at g0
    change h = _ at g1
    subst g0 g1
    unfold_payloads
    refine stM_read y (fun s => ?_) (fun s => ?_) ?_ <;> pointwise [] <;> rfl

/-- The normaliser of one batch row and head. -/
theorem out_n (c : Dev nD) (t : Fin cfg0.N) (b h : Fin 4) (r : Fin 1) (d : Fin 64) :
    (outsAt0 m c t).2.2.1 (ix4 b h r d) =
      Mlstm.stN (key (X0_0 m c t) b h) (liB (iblk m c 1 t) (iblk m c 2 t) b h) (lfB (iblk m c 1 t) (iblk m c 2 t) b h)
        (fun d => iblk m c 5 t (ix4 b h 0 d)) (iblk m c 6 t (ix4 b h 0 0)) d := by
  unfold outsAt0
  dsimp only
  frame_out [Chain.readCov_ld]
  rw [Chain.canon_take 16]
  rotate_left
  · simp only [List.take]; exact View.cover_of_tiled_head _ _ _ (by rfl) _
  simp only [List.take]
  obtain ⟨b, hb⟩ := b
  obtain ⟨h, hh⟩ := h
  canon_tiles y g
  all_goals
    have y0 : (y 0 : Nat) = 0 := by omega
    have y1 : (y 1 : Nat) = 0 := by omega
    rw [y0] at g0
    rw [y1] at g1
    change b = _ at g0
    change h = _ at g1
    subst g0 g1
    unfold_payloads
    refine stN_read y (fun u d => ?_) (fun s => ?_) (fun s => ?_) (fun d => ?_) ?_ d g3.symm
    · pointwise []; exact key_eq rfl
    all_goals pointwise [] <;> rfl

/-- The matrix state of one batch row and head. -/
theorem out_c (c : Dev nD) (t : Fin cfg0.N) (b h : Fin 4) (d e : Fin 64) :
    (outsAt0 m c t).2.1 (ix4 b h d e) =
      Mlstm.stC (key (X0_0 m c t) b h) (part (X0_0 m c t) b h 2) (liB (iblk m c 1 t) (iblk m c 2 t) b h)
        (lfB (iblk m c 1 t) (iblk m c 2 t) b h)
        (fun d e => iblk m c 4 t (ix4 b h d e)) (iblk m c 6 t (ix4 b h 0 0)) d e := by
  unfold outsAt0
  dsimp only
  frame_out [Chain.readCov_ld]
  rw [Chain.canon_take 16]
  rotate_left
  · simp only [List.take]; exact View.cover_of_tiled_head _ _ _ (by rfl) _
  simp only [List.take]
  obtain ⟨b, hb⟩ := b
  obtain ⟨h, hh⟩ := h
  canon_tiles y g
  all_goals
    have y0 : (y 0 : Nat) = 0 := by omega
    have y1 : (y 1 : Nat) = 0 := by omega
    rw [y0] at g0
    rw [y1] at g1
    change b = _ at g0
    change h = _ at g1
    subst g0 g1
    unfold_payloads
    refine stC_read y (fun u d => ?_) (fun u d => ?_) (fun s => ?_) (fun s => ?_) (fun d e => ?_) ?_ d e g2.symm g3.symm
    · pointwise []; exact key_eq rfl
    · pointwise []; exact part_eq rfl
    all_goals pointwise [] <;> rfl

end Cert.KernelIdeal.Val

end
-- ==== Proof.PiecesAct.lean ====
/- What one grid step leaves in the block of the activations, at an index. -/
module

public import proofs.«01_k».proof.Proof.Gen.KernelIdeal.Value
public import Idealize.ShloMosaic.Lib.Tactic
public import proofs.«01_k».proof.Proof.Reads

@[expose] public section

set_option maxRecDepth 16384
set_option maxHeartbeats 1600000

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Chain

variable (m : (ℓ : Loc nD τ sig) → Buf (Elt Ideal) ℓ)

/-- The head and the column of it that a column number of the activations names. -/
theorem split64 {h d o y : Nat} (e : 64 * h + d = o + y) (hd : d < 64) (hy : y < 64) (ho : o % 64 = 0) : h = o / 64 ∧ y = d := by
  omega

/-- The activations of one batch row and head. -/
theorem out_act (c : Dev nD) (t : Fin cfg0.N) (b h : Fin 4) (u : Fin 8) (d : Fin 64) :
    (outsAt0 m c t).1 (ix3 b u ⟨64 * h + d, by omega⟩) =
      Mlstm.act (part (X0_0 m c t) b h 0) (key (X0_0 m c t) b h) (part (X0_0 m c t) b h 2) (part (X0_0 m c t) b h 3)
        (liB (iblk m c 1 t) (iblk m c 2 t) b h)
        (lfB (iblk m c 1 t) (iblk m c 2 t) b h) (gB (iblk m c 3 t) h)
        (fun d e => iblk m c 4 t (ix4 b h d e)) (fun d => iblk m c 5 t (ix4 b h 0 d)) (iblk m c 6 t (ix4 b h 0 0)) u d := by
  unfold outsAt0
  dsimp only
  frame_out [Chain.readCov_ld]
  obtain ⟨b, hb⟩ := b
  obtain ⟨h, hh⟩ := h
  canon_tiles y g
  all_goals
    have y0 : (y 0 : Nat) = 0 := by omega
    rw [y0] at g0
    change b = _ at g0
    subst g0
    change 64 * h + (d : Nat) = _ at g2
    first
      | obtain ⟨k2, k3⟩ := split64 g2 d.isLt y2_lt rfl
        subst k2
      | obtain ⟨k2, k3⟩ := split64 (g2.trans (Nat.zero_add _).symm) d.isLt y2_lt rfl
        subst k2
    unfold_payloads
    refine act_read y (fun u d => ?_) (fun u d => ?_) (fun u d => ?_) (fun u d => ?_) (fun s => ?_) (fun s => ?_) (fun d => ?_)
      (fun d e => ?_) (fun d => ?_) ?_ u d g1.symm k3
    · pointwise []; first | exact part_eq rfl | exact part_eq (Nat.zero_add _).symm
    · pointwise []; exact key_eq rfl
    · pointwise []; exact part_eq rfl
    · pointwise []; exact part_eq rfl
    · pointwise []; rfl
    · pointwise []; rfl
    · pointwise []; first | exact gB_eq rfl | exact gB_eq (Nat.zero_add _).symm
    all_goals pointwise [] <;> rfl

end Cert.KernelIdeal.Val

end
-- ==== Proof.Final.lean ====
/- The four arrays the kernel leaves, as the results of the call. -/
module

public import proofs.«01_k».proof.Proof.Spec
public import proofs.«01_k».proof.Proof.Entry
public import proofs.«01_k».proof.Proof.Pieces
public import proofs.«01_k».proof.Proof.PiecesAct

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Chain

variable (m : (ℓ : Loc nD τ sig) → Buf (Elt Ideal) ℓ) (c : Dev nD)

/-- The projected rows. -/
def az (B : Fin 32) (s : Fin 8) (x : Fin 7560) : EReal := m ((c : Thread nD τ).loc main_arg0) (ix3 B s x)
/-- The input gate's bias. -/
def abi (h : Fin 4) : EReal := m ((c : Thread nD τ).loc main_arg1) (ix1 h)
/-- The forget gate's bias. -/
def abf (h : Fin 4) : EReal := m ((c : Thread nD τ).loc main_arg2) (ix1 h)
/-- The norm's weights. -/
def ag (x : Fin 256) : EReal := m ((c : Thread nD τ).loc main_arg3) (ix1 x)
/-- The incoming matrix state. -/
def ac (B : Fin 32) (h : Fin 4) (d e : Fin 64) : EReal := m ((c : Thread nD τ).loc main_arg4) (ix4 B h d e)
/-- The incoming normaliser. -/
def an (B : Fin 32) (h : Fin 4) (d : Fin 64) : EReal := m ((c : Thread nD τ).loc main_arg5) (ix3 B h d)
/-- The incoming stabiliser. -/
def am (B : Fin 32) (h : Fin 4) : EReal := m ((c : Thread nD τ).loc main_arg6) (ix2 B h)

section
variable (t : Fin cfg0.N) (b h : Fin 4)

/-- A head's columns of the step's block. -/
theorem part_at (j : Fin 4) : part (X0_0 m c t) b h j = Mlstm.zpart (az m c) (row t b) h j := by
  funext s d
  exact X0_at m c t b s _

/-- A head's scaled keys of the step's block. -/
theorem key_at : key (X0_0 m c t) b h = Mlstm.zkey (az m c) (row t b) h := by
  funext s d
  exact congrArg (· * _) (X0_at m c t b s _)

/-- A head's input gates of the step's block. -/
theorem li_at : liB (iblk m c 1 t) (iblk m c 2 t) b h = Mlstm.zli (az m c) (abi m c) (row t b) h := by
  funext s
  exact congrArg₂ (· + ·) (X1_at m c t b s ⟨h, by omega⟩) (X2_at m c t h).1

/-- A head's log forget gates of the step's block. -/
theorem lf_at : lfB (iblk m c 1 t) (iblk m c 2 t) b h = Mlstm.zlf (az m c) (abf m c) (row t b) h := by
  funext s
  exact congrArg Mlstm.lsig (congrArg₂ (· + ·) (X1_at m c t b s ⟨4 + h, by omega⟩) (X2_at m c t h).2)

/-- A head's norm weights. -/
theorem g_at : gB (iblk m c 3 t) h = Mlstm.zg (ag m c) h := by
  funext d
  exact X3_at m c t _

/-- A head's carried matrix of the step's block. -/
theorem C_at : (fun d e => iblk m c 4 t (ix4 b h d e) : Fin 64 → Fin 64 → EReal) = ac m c (row t b) h := by
  funext d e
  exact c0_at m c t b h d e

/-- A head's carried normaliser of the step's block. -/
theorem N_at : (fun d => iblk m c 5 t (ix4 b h 0 d) : Fin 64 → EReal) = an m c (row t b) h := by
  funext d
  exact X5_at m c t b h d

end

/-- The stabilisers' array. -/
theorem arr_m : (dats m 0 c).arrAt 10 cfg0.N = fun y : S32x4x1x128.Idx => Mlstm.mS (az m c) (abi m c) (abf m c) (am m c) (y 0) (y 1) := by
  refine (dats m 0 c).arrAt_eq_of_covers 10 _ (by decide +kernel) fun t _ y => ?_
  blk_simp
  rw [after0_10]
  idx_vars y
  have e : ((View.whole main_v15_3).slice (win0_10.rect t)).emb (ix4 y0 y1 y2 y3) = (ix4 (row t y0) y1 y2 y3 : S32x4x1x128.Idx) := by
    blk_ext [idx t, row]
  rw [e]
  refine (out_m m c t y0 y1 y2 y3).trans ?_
  rw [li_at, lf_at, X6_at]
  rfl

/-- The normalisers' array. -/
theorem arr_n : (dats m 0 c).arrAt 9 cfg0.N =
    fun y : S32x4x1x64.Idx => Mlstm.nS (az m c) (abi m c) (abf m c) (an m c) (am m c) (y 0) (y 1) (y 3) := by
  refine (dats m 0 c).arrAt_eq_of_covers 9 _ (by decide +kernel) fun t _ y => ?_
  blk_simp
  rw [after0_9]
  idx_vars y
  have e : ((View.whole main_v15_2).slice (win0_9.rect t)).emb (ix4 y0 y1 y2 y3) = (ix4 (row t y0) y1 y2 y3 : S32x4x1x64.Idx) := by
    blk_ext [idx t, row]
  rw [e]
  refine (out_n m c t y0 y1 y2 y3).trans ?_
  rw [key_at, li_at, lf_at, N_at, X6_at]
  rfl

/-- The matrix states' array. -/
theorem arr_c : (dats m 0 c).arrAt 8 cfg0.N =
    fun y : S32x4x64x64.Idx => Mlstm.cS (az m c) (abi m c) (abf m c) (ac m c) (am m c) (y 0) (y 1) (y 2) (y 3) := by
  refine (dats m 0 c).arrAt_eq_of_covers 8 _ (by decide +kernel) fun t _ y => ?_
  blk_simp
  rw [after0_8]
  idx_vars y
  have e : ((View.whole main_v15_1).slice (win0_8.rect t)).emb (ix4 y0 y1 y2 y3) = (ix4 (row t y0) y1 y2 y3 : S32x4x64x64.Idx) := by
    blk_ext [idx t, row]
  rw [e]
  refine (out_c m c t y0 y1 y2 y3).trans ?_
  rw [key_at, part_at, li_at, lf_at, C_at, X6_at]
  rfl

/-- The activations' array. -/
theorem arr_a : (dats m 0 c).arrAt 7 cfg0.N =
    fun y : S32x8x256.Idx => Mlstm.actY (az m c) (abi m c) (abf m c) (ag m c) (ac m c) (an m c) (am m c) (y 0) (y 1) (y 2) := by
  refine (dats m 0 c).arrAt_eq_of_covers 7 _ (by decide +kernel) fun t _ y => ?_
  blk_simp
  rw [after0_7]
  idx_vars y
  have e : ((View.whole main_v15_0).slice (win0_7.rect t)).emb (ix3 y0 y1 y2) = (ix3 (row t y0) y1 y2 : S32x8x256.Idx) := by
    blk_ext [idx t, row]
  rw [e]
  have e2 : y2 = ⟨64 * (⟨y2.val / 64, by omega⟩ : Fin 4).val + (⟨y2.val % 64, Nat.mod_lt _ (by omega)⟩ : Fin 64).val, by simp only; omega⟩ :=
    Fin.ext (Nat.div_add_mod y2.val 64).symm
  refine (congrArg (fun w => (outsAt0 m c t).1 (ix3 y0 y1 w)) e2).trans ?_
  refine (out_act m c t y0 ⟨y2.val / 64, by omega⟩ y1 ⟨y2.val % 64, Nat.mod_lt _ (by omega)⟩).trans ?_
  rw [part_at, part_at, part_at, key_at, li_at, lf_at, g_at, C_at, N_at, X6_at]
  rfl

end Cert.KernelIdeal.Val
-- ==== Proof.Ref.lean ====
/- The reference's stages, as the formulas of one (batch row, head). -/
module

public import proofs.«01_k».proof.Proof.Spec
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Read

/-- A left fold of additions is the sum. -/
theorem foldl_sum {α : Type} (g : α → EReal) (l : List α) (r : EReal) : l.foldl (fun r n => r + g n) r = r + (l.map g).sum := by
  induction l generalizing r with
  | nil => simp
  | cons a l ih => simp only [List.foldl_cons, ih, List.map_cons, List.sum_cons, add_assoc]

/-- The positions of a window of eight along the last axis. -/
theorem win8 : ∀ n : Fin 8, ((⟨3, ![1, 1, 8]⟩ : Shape).rowMajor.symm n 0).val = 0 ∧
    ((⟨3, ![1, 1, 8]⟩ : Shape).rowMajor.symm n 1).val = 0 ∧ ((⟨3, ![1, 1, 8]⟩ : Shape).rowMajor.symm n 2).val = n.val := by
  decide +kernel

/-- The host's running sum along the last axis. -/
theorem cumsum_at (x : FVec Ideal S32x4x8 .f32) (i0 : FVec Ideal S_ .f32) (hi : i0 ix0 = 0) (B : Fin 32) (h : Fin 4) (t : Fin 8) :
    Host.reduceWindowAdd ![1, 1, 8] ![1, 1, 1] ![0, 0, 7] ![0, 0, 0] x i0 reduceWindows_S32x4x8_S32x4x8_w1s1p0_0_w1s1p0_0_w8s1p7_0 h_S_
      (ix3 B h t) = Mlstm.cum (fun s => x (ix3 B h s)) t := by
  have hv : i0 (Shape.Idx.first h_S_) = 0 := by rw [← hi]; congr 1; exact funext fun a => a.elim0
  have hB := B.isLt
  have hh := h.isLt
  have ht := t.isLt
  have step : ∀ (n : Fin 8) (_ : Decidable (∀ a : Fin 3, (![0, 0, 7] : Fin 3 → ℕ) a ≤ ((ix3 B h t : S32x4x8.Idx) a).val * (![1, 1, 1] : Fin 3 → ℕ) a + ((⟨3, ![1, 1, 8]⟩ : Shape).rowMajor.symm n a).val
        ∧ ((ix3 B h t : S32x4x8.Idx) a).val * (![1, 1, 1] : Fin 3 → ℕ) a + ((⟨3, ![1, 1, 8]⟩ : Shape).rowMajor.symm n a).val - (![0, 0, 7] : Fin 3 → ℕ) a < S32x4x8.size a)),
      (if hin : ∀ a : Fin 3, (![0, 0, 7] : Fin 3 → ℕ) a ≤ ((ix3 B h t : S32x4x8.Idx) a).val * (![1, 1, 1] : Fin 3 → ℕ) a + ((⟨3, ![1, 1, 8]⟩ : Shape).rowMajor.symm n a).val
        ∧ ((ix3 B h t : S32x4x8.Idx) a).val * (![1, 1, 1] : Fin 3 → ℕ) a + ((⟨3, ![1, 1, 8]⟩ : Shape).rowMajor.symm n a).val - (![0, 0, 7] : Fin 3 → ℕ) a < S32x4x8.size a
      then x (fun a => ⟨_, (hin a).2⟩) else (0 : EReal))
      = if hle : 7 ≤ t.val + n.val then x (ix3 B h ⟨t.val + n.val - 7, by omega⟩) else 0 := by
    intro n _
    obtain ⟨w0, w1, w2⟩ := win8 n
    split
    · next hin =>
      have h2 : 7 ≤ t.val * 1 + ((⟨3, ![1, 1, 8]⟩ : Shape).rowMajor.symm n 2).val := (hin 2).1
      rw [w2] at h2
      rw [dif_pos (by omega)]
      refine congrArg x (funext fun a => Fin.ext ?_)
      match a with
      | ⟨0, _⟩ => show B.val * 1 + ((⟨3, ![1, 1, 8]⟩ : Shape).rowMajor.symm n 0).val - 0 = B.val; rw [w0]; omega
      | ⟨1, _⟩ => show h.val * 1 + ((⟨3, ![1, 1, 8]⟩ : Shape).rowMajor.symm n 1).val - 0 = h.val; rw [w1]; omega
      | ⟨2, _⟩ => show t.val * 1 + ((⟨3, ![1, 1, 8]⟩ : Shape).rowMajor.symm n 2).val - 7 = t.val + n.val - 7; rw [w2]; omega
    · next hin =>
      rw [dif_neg fun hle => hin fun a => by
        match a with
        | ⟨0, _⟩ =>
          show 0 ≤ B.val * 1 + ((⟨3, ![1, 1, 8]⟩ : Shape).rowMajor.symm n 0).val ∧ B.val * 1 + ((⟨3, ![1, 1, 8]⟩ : Shape).rowMajor.symm n 0).val - 0 < 32
          rw [w0]; omega
        | ⟨1, _⟩ =>
          show 0 ≤ h.val * 1 + ((⟨3, ![1, 1, 8]⟩ : Shape).rowMajor.symm n 1).val ∧ h.val * 1 + ((⟨3, ![1, 1, 8]⟩ : Shape).rowMajor.symm n 1).val - 0 < 4
          rw [w1]; omega
        | ⟨2, _⟩ =>
          show 7 ≤ t.val * 1 + ((⟨3, ![1, 1, 8]⟩ : Shape).rowMajor.symm n 2).val ∧ t.val * 1 + ((⟨3, ![1, 1, 8]⟩ : Shape).rowMajor.symm n 2).val - 7 < 8
          rw [w2]; omega]
  unfold Host.reduceWindowAdd
  show Ideal.hostReduceWindowAdd _ _ _ _ _ x (i0 (Shape.Idx.first h_S_)) (ix3 B h t) = _
  rw [hv]
  unfold Ideal.hostReduceWindowAdd Host.reduceWindow
  dsimp only
  refine Eq.trans (b := (List.finRange 8).foldl (fun (r : EReal) (n : Fin 8) => r + if hle : 7 ≤ t.val + n.val then x (ix3 B h ⟨t.val + n.val - 7, by omega⟩) else 0) 0) ?_ ?_
  · refine congrArg (fun f => (List.finRange 8).foldl f (0 : EReal)) ?_
    funext r n
    exact congrArg (r + ·) (step n _)
  · rw [foldl_sum, zero_add, ← Fin.sum_univ_def]
    unfold Mlstm.cum
    fin_cases t <;> simp [Fin.sum_univ_eight] <;> rfl

/-- The lower triangle's mask. -/
theorem tril : ∀ t s : Fin 8, Scalar.select (IntOp.cmpi CmpIPredicate.sge (IntOp.addi (BitVec.ofNat 32 t) 0#32) (BitVec.ofNat 32 s)) 1#1 0#1
    = if s ≤ t then 1#1 else 0#1 := by
  decide

variable (x0 : (⟨S32x8x7560, .f32⟩ : BufTy).Contents (Elt Ideal)) (x1 x2 : (⟨S4, .f32⟩ : BufTy).Contents (Elt Ideal))
  (x3 : (⟨S256, .f32⟩ : BufTy).Contents (Elt Ideal)) (x4 : (⟨S32x4x64x64, .f32⟩ : BufTy).Contents (Elt Ideal))
  (x5 : (⟨S32x4x64, .f32⟩ : BufTy).Contents (Elt Ideal)) (x6 : (⟨S32x4, .f32⟩ : BufTy).Contents (Elt Ideal))
  (B : Fin 32) (h : Fin 4)

/-- The projected rows. -/
def rz (B : Fin 32) (s : Fin 8) (x : Fin 7560) : EReal := x0 (ix3 B s x)
/-- A gate's bias. -/
def rb (h : Fin 4) : EReal := x1 (ix1 h)
/-- The norm's weights. -/
def rg (x : Fin 256) : EReal := x3 (ix1 x)
/-- The incoming matrix state. -/
def rc (B : Fin 32) (h : Fin 4) (d e : Fin 64) : EReal := x4 (ix4 B h d e)
/-- The incoming normaliser. -/
def rn (B : Fin 32) (h : Fin 4) (d : Fin 64) : EReal := x5 (ix3 B h d)
/-- The incoming stabiliser. -/
def rm (B : Fin 32) (h : Fin 4) : EReal := x6 (ix2 B h)

/-- The reference's queries. -/
theorem q_at (t : Fin 8) (d : Fin 64) : val_main_v15 x0 (ix4 B h t d) = Mlstm.zpart (rz x0) B h 0 t d := by
  pointwise [val_main_v15, val_main_v1, val_main_v0, Mlstm.zpart, rz]
  blk_ext []

/-- The reference's values. -/
theorem v_at (t : Fin 8) (d : Fin 64) : val_main_v19 x0 (ix4 B h t d) = Mlstm.zpart (rz x0) B h 2 t d := by
  pointwise [val_main_v19, val_main_v5, val_main_v4, Mlstm.zpart, rz]
  blk_ext []

/-- The reference's scaled keys. -/
theorem k_at (t : Fin 8) (d : Fin 64) : val_main_v18 x0 (ix4 B h t d) = Mlstm.zkey (rz x0) B h t d := by
  pointwise [val_main_v18, val_main_v17, val_main_cst, val_main_v16, val_main_v3, val_main_v2, Mlstm.zkey, Mlstm.zpart, rz]
  blk_point []

/-- The reference's output gates before the sigmoid. -/
theorem o_at (t : Fin 8) (d : Fin 64) : val_main_v6 x0 (ix3 B t ⟨64 * h + d, by omega⟩) = Mlstm.zpart (rz x0) B h 3 t d := by
  pointwise [val_main_v6, Mlstm.zpart, rz]
  blk_ext []

/-- The reference's input gates. -/
theorem li_at (s : Fin 8) : val_main_v20 x0 x1 (ix3 B h s) = Mlstm.zli (rz x0) (rb x1) B h s := by
  pointwise [val_main_v20, val_main_v10, val_main_v9, val_main_v8, val_main_v7, Mlstm.zli, rz, rb]
  try blk_point []

/-- The reference's forget gates before the log of the sigmoid. -/
theorem f_at (s : Fin 8) : val_main_v14 x0 x2 (ix3 B s h) = rz x0 B s ⟨1024 + (4 + h), by omega⟩ + rb x2 h := by
  pointwise [val_main_v14, val_main_v13, val_main_v12, val_main_v11, rz, rb]
  try blk_point []

/-- The reference's log forget gates. -/
theorem lf_at (s : Fin 8) : val_main_v22 x0 x2 (ix3 B h s) = Mlstm.zlf (rz x0) (rb x2) B h s := by
  pointwise [val_main_v22, val_main_v21, val_main_call0_v1, val_main_call0_call0_v4, val_main_call0_call0_v6, val_main_call0_call0_v11, val_main_call0_call0_v10,
    val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0]
  rw [f_at]
  have e := Mlstm.lsig_eq (rz x0 B s ⟨1024 + (4 + h), by omega⟩ + rb x2 h)
  rw [sub_zero] at e
  rw [if_neg (by simp)]
  exact e

/-- The reference's running sums of the log forget gates. -/
theorem b_at (t : Fin 8) : val_main_v25 x0 x2 (ix3 B h t) = Mlstm.cum (Mlstm.zlf (rz x0) (rb x2) B h) t := by
  refine (cumsum_at _ _ ?_ B h t).trans ?_
  · pointwise [val_main_call2_call0_v0, val_main_call2_call0_cst]
  · exact congrArg (fun f => Mlstm.cum f t) (funext fun s => lf_at x0 x2 B h s)

/-- The reference's masked weights' exponents. -/
theorem d_at (t s : Fin 8) : val_main_v34 x0 x1 x2 (ix4 B h t s) = Mlstm.dw (Mlstm.zli (rz x0) (rb x1) B h) (Mlstm.zlf (rz x0) (rb x2) B h) t s := by
  pointwise [val_main_v34, val_main_call3_v2, val_main_call3_v1, val_main_call3_v0, val_main_cst_0, val_main_v33, val_main_v32, val_main_v31, val_main_v30, val_main_v29, val_main_v28,
    val_main_v27, val_main_v26, val_main_v24, val_main_v23, val_main_c, val_main_call1_v0, val_main_call1_v1, val_main_call1_v2, val_main_call1_v3, val_main_call1_v4, val_main_call1_v5, val_main_call1_c, val_main_call1_c_0]
  rw [b_at, b_at, li_at]
  rw [tril t s, Mlstm.sel_ite]
  rfl

/-- The reference's stabiliser at each position. -/
theorem mt_at (t : Fin 8) : val_main_v39 x0 x1 x2 x6 (ix3 B h t) =
    Mlstm.mrow (Mlstm.zli (rz x0) (rb x1) B h) (Mlstm.zlf (rz x0) (rb x2) B h) (rm x6 B h) t := by
  pointwise [val_main_v39, val_main_v38, val_main_v37, val_main_v36, val_main_v35, val_main_cst_1]
  rw [b_at]
  simp only [d_at]
  rfl

/-- The reference's weight of the carried state at each position. -/
theorem ai_at (t : Fin 8) : val_main_v47 x0 x1 x2 x6 (ix3 B h t) =
    Mlstm.ai (Mlstm.zli (rz x0) (rb x1) B h) (Mlstm.zlf (rz x0) (rb x2) B h) (rm x6 B h) t := by
  pointwise [val_main_v47, val_main_v46, val_main_v37, val_main_v36, val_main_v35]
  rw [b_at, mt_at]
  rfl

/-- The reference's weights of the earlier positions. -/
theorem wt_at (t s : Fin 8) : val_main_v45 x0 x1 x2 x6 (ix4 B h t s) =
    Mlstm.wt (Mlstm.zpart (rz x0) B h 0) (Mlstm.zkey (rz x0) B h) (Mlstm.zli (rz x0) (rb x1) B h) (Mlstm.zlf (rz x0) (rb x2) B h) (rm x6 B h) t s := by
  pointwise [val_main_v45, val_main_v44, val_main_v43, val_main_v42, val_main_v41, val_main_v40]
  rw [d_at, mt_at]
  simp only [q_at, k_at]
  rfl

/-- The reference's numerator. -/
theorem nu_at (t : Fin 8) (e : Fin 64) : val_main_v53 x0 x1 x2 x4 x6 (ix4 B h t e) =
    Mlstm.nu (Mlstm.zpart (rz x0) B h 0) (Mlstm.zkey (rz x0) B h) (Mlstm.zpart (rz x0) B h 2) (Mlstm.zli (rz x0) (rb x1) B h)
      (Mlstm.zlf (rz x0) (rb x2) B h) (rc x4 B h) (rm x6 B h) t e := by
  pointwise [val_main_v53, val_main_v52, val_main_v51, val_main_v50, val_main_v49, val_main_v48]
  simp only [wt_at, v_at, ai_at, q_at]
  rfl

/-- The reference's denominator. -/
theorem de_at (t : Fin 8) : val_main_v57 x0 x1 x2 x5 x6 (ix3 B h t) =
    Mlstm.de (Mlstm.zpart (rz x0) B h 0) (Mlstm.zkey (rz x0) B h) (Mlstm.zli (rz x0) (rb x1) B h)
      (Mlstm.zlf (rz x0) (rb x2) B h) (rn x5 B h) (rm x6 B h) t := by
  pointwise [val_main_v57, val_main_v56, val_main_v55, val_main_v54, val_main_cst_2]
  simp only [wt_at, ai_at, q_at]
  rfl

/-- The reference's hidden rows before the norm. -/
theorem hid_at (t : Fin 8) (e : Fin 64) : val_main_v64 x0 x1 x2 x4 x5 x6 (ix4 B h t e) =
    Mlstm.hid (Mlstm.zpart (rz x0) B h 0) (Mlstm.zkey (rz x0) B h) (Mlstm.zpart (rz x0) B h 2) (Mlstm.zli (rz x0) (rb x1) B h)
      (Mlstm.zlf (rz x0) (rb x2) B h) (rc x4 B h) (rn x5 B h) (rm x6 B h) t e := by
  pointwise [val_main_v64, val_main_v63, val_main_v62, val_main_v61, val_main_v60, val_main_v59, val_main_v58]
  rw [nu_at, de_at, mt_at, ← zero_sub (Mlstm.mrow _ _ _ _)]
  rfl

/-- The reference's new stabiliser. -/
theorem m_at : val_main_v73 x0 x1 x2 x6 (ix2 B h) =
    Mlstm.mNew (Mlstm.zli (rz x0) (rb x1) B h) (Mlstm.zlf (rz x0) (rb x2) B h) (rm x6 B h) := by
  pointwise [val_main_v73, val_main_v72, val_main_v71, val_main_v70, val_main_v69, val_main_v68, val_main_v67, val_main_v66, val_main_v65, val_main_cst_3]
  simp only [b_at, li_at]
  rfl

/-- The reference's weights of the keys in the new state. -/
theorem wk_at (s : Fin 8) : val_main_v77 x0 x1 x2 x6 (ix3 B h s) =
    Ideal.exp (Mlstm.gl (Mlstm.zli (rz x0) (rb x1) B h) (Mlstm.zlf (rz x0) (rb x2) B h) s
      - Mlstm.mNew (Mlstm.zli (rz x0) (rb x1) B h) (Mlstm.zlf (rz x0) (rb x2) B h) (rm x6 B h)) := by
  pointwise [val_main_v77, val_main_v76, val_main_v75, val_main_v74, val_main_v70, val_main_v69, val_main_v68, val_main_v67, val_main_v66, val_main_v65]
  simp only [b_at, li_at, m_at]
  rfl

/-- The reference's decay of the carried state. -/
theorem dec_at : val_main_v80 x0 x1 x2 x6 (ix2 B h) =
    Mlstm.dec (Mlstm.zli (rz x0) (rb x1) B h) (Mlstm.zlf (rz x0) (rb x2) B h) (rm x6 B h) := by
  pointwise [val_main_v80, val_main_v79, val_main_v78, val_main_v66, val_main_v65]
  simp only [b_at, m_at]
  rfl

/-- The reference's matrix states. -/
theorem c_at (d e : Fin 64) : val_main_v88 x0 x1 x2 x4 x6 (ix4 B h d e) =
    Mlstm.cS (rz x0) (rb x1) (rb x2) (rc x4) (rm x6) B h d e := by
  pointwise [val_main_v88, val_main_v87, val_main_v86, val_main_v85, val_main_v84, val_main_v83, val_main_v82, val_main_v81]
  simp only [dec_at, wk_at, k_at, v_at]
  rfl

/-- The reference's normalisers. -/
theorem n_at (r : Fin 1) (d : Fin 64) : val_main_v119 x0 x1 x2 x5 x6 (ix4 B h r d) =
    Mlstm.nS (rz x0) (rb x1) (rb x2) (rn x5) (rm x6) B h d := by
  pointwise [val_main_v119, val_main_v96, val_main_v95, val_main_v94, val_main_v93, val_main_v92, val_main_v91, val_main_v90, val_main_v89, val_main_cst_4]
  simp only [dec_at, wk_at, k_at]
  rfl

/-- The reference's stabilisers. -/
theorem mS_at (r : Fin 1) (l : Fin 128) : val_main_v121 x0 x1 x2 x6 (ix4 B h r l) =
    Mlstm.mS (rz x0) (rb x1) (rb x2) (rm x6) B h := by
  pointwise [val_main_v121, val_main_v120]
  exact m_at x0 x1 x2 x6 B h

/-- The reference's activations. -/
theorem act_at (t : Fin 8) (d : Fin 64) : val_main_v118 x0 x1 x2 x3 x4 x5 x6 (ix3 B t ⟨64 * h + d, by omega⟩) =
    Mlstm.actS (rz x0) (rb x1) (rb x2) (rg x3) (rc x4) (rn x5) (rm x6) B h t d := by
  pointwise [val_main_v118, val_main_v117, val_main_v116, val_main_v115, val_main_v114, val_main_v113, val_main_v112, val_main_v111, val_main_v110, val_main_v109, val_main_v108,
    val_main_v107, val_main_v106, val_main_v105, val_main_v104, val_main_v103, val_main_v102, val_main_v101, val_main_v100, val_main_v99, val_main_v98, val_main_v97,
    val_main_cst_5, val_main_cst_6, val_main_cst_7, val_main_cst_8, val_main_cst_9]
  rw [Mlstm.sgm_eq, o_at]
  simp only [hid_at]
  rfl

end Cert.ReferenceIdeal.Stage
-- ==== Proof.Same.lean ====
/- The kernel's four arrays are the reference's four results of the same arguments. -/
module

public import proofs.«01_k».proof.Proof.Final
public import proofs.«01_k».proof.Proof.Ref

@[expose] public section

set_option maxRecDepth 16384

noncomputable section

namespace Cert.Same

open Idealize.ShloMosaic Idealize.ShloMosaic.TcCoe Idealize.SL.Sem
open Cert.KernelIdeal Cert.KernelIdeal.Gen Cert.KernelIdeal.Val
open Cert.ReferenceIdeal.Read

variable (m : (ℓ : Loc nD τ sig) → Buf (Elt Ideal) ℓ) (c : Dev nD)

/-- The activations. -/
theorem act : val_main_v118 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    = (dats m 0 c).arrAt 7 cfg0.N := by
  rw [arr_a]
  funext y
  idx_vars y
  have e2 : y2 = ⟨64 * (⟨y2.val / 64, by omega⟩ : Fin 4).val + (⟨y2.val % 64, Nat.mod_lt _ (by omega)⟩ : Fin 64).val, by simp only; omega⟩ :=
    Fin.ext (Nat.div_add_mod y2.val 64).symm
  refine (congrArg (fun w => val_main_v118 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (ix3 y0 y1 w)) e2).trans ?_
  exact Cert.ReferenceIdeal.Stage.act_at _ _ _ _ _ _ _ y0 ⟨y2.val / 64, by omega⟩ y1 ⟨y2.val % 64, Nat.mod_lt _ (by omega)⟩

/-- The matrix states. -/
theorem states : val_main_v88 (F := Ideal) (m ((c : Thread nD τ).loc main_arg0)) (m ((c : Thread nD τ).loc main_arg1)) (m ((c : Thread nD τ).loc main_arg2))
    (m ((c : Thread nD τ).loc main_arg4)) (m ((c : Thread nD τ).loc main_arg6)) = (dats m 0 c).arrAt 8 cfg0.N := by
  rw [arr_c]
  funext y
  idx_vars y
  exact Cert.ReferenceIdeal.Stage.c_at _ _ _ _ _ y0 y1 y2 y3

/-- The normalisers. -/
theorem norms : val_main_v119 (F := Ideal) (m ((c : Thread nD τ).loc main_arg0)) (m ((c : Thread nD τ).loc main_arg1)) (m ((c : Thread nD τ).loc main_arg2))
    (m ((c : Thread nD τ).loc main_arg5)) (m ((c : Thread nD τ).loc main_arg6)) = (dats m 0 c).arrAt 9 cfg0.N := by
  rw [arr_n]
  funext y
  idx_vars y
  exact Cert.ReferenceIdeal.Stage.n_at _ _ _ _ _ y0 y1 y2 y3

/-- The stabilisers. -/
theorem stabs : val_main_v121 (F := Ideal) (m ((c : Thread nD τ).loc main_arg0)) (m ((c : Thread nD τ).loc main_arg1)) (m ((c : Thread nD τ).loc main_arg2))
    (m ((c : Thread nD τ).loc main_arg6)) = (dats m 0 c).arrAt 10 cfg0.N := by
  rw [arr_m]
  funext y
  idx_vars y
  exact Cert.ReferenceIdeal.Stage.mS_at _ _ _ _ y0 y1 y2 y3

end Cert.Same
-- ==== Proof.RefRun.lean ====
/- The reference's run: each result at its last stage, the arguments unchanged. -/
module

public import proofs.«01_k».proof.Proof.Gen.ReferenceIdeal.Run
public import proofs.«01_k».proof.Proof.Gen.ReferenceIdeal.Read

@[expose] public section

set_option maxRecDepth 16384

set_option maxHeartbeats 4000000

noncomputable section

namespace Cert.ReferenceIdeal.Stage

open Idealize.ShloMosaic Idealize.ShloMosaic.TcCoe Idealize.SL.Sem
open Cert.ReferenceIdeal Cert.ReferenceIdeal.Gen Cert.ReferenceIdeal.Read

/-- Every run of the reference ends with its four results at the last stages and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v88) = val_main_v88 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6))
      ∧ r.2.mem ((c.tc : Thread nD τ).loc main_v119) = val_main_v119 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v121) = val_main_v121 (F := Ideal) (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v118_eq (StableHlo.launchContents m c)),
    (h c).2.1.trans (val_main_v88_eq (StableHlo.launchContents m c)), (h c).2.2.1.trans (val_main_v119_eq (StableHlo.launchContents m c)),
    (h c).2.2.2.1.trans (val_main_v121_eq (StableHlo.launchContents m c)), (h c).2.2.2.2⟩) (Cert.ReferenceIdeal.Value.run m ρ)

end Cert.ReferenceIdeal.Stage
-- ==== Proof.lean ====
/- The certificate of the five calls: the frames, and that each kernel computes its reference's results. The mLSTM call's part is stated
   here, the other calls' parts in their own modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.MergeClaim
public import proofs.«01_k».proof.Proof.ResClaim
public import proofs.«01_k».proof.Proof.ProjClaim
public import proofs.«01_k».proof.Proof.UpClaim
public import proofs.«01_k».proof.Proof.Same
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m ρ _ => Cert.Kernel.Gen.frame m ρ

/-- The idealized kernel's frame. -/
theorem frame_ideal : Cert.quiescent_KernelIdeal := fun m ρ _ => Cert.KernelIdeal.Gen.frame m ρ

/-- The reference's frame. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Stage.run m ρ)

set_option maxHeartbeats 4000000 in
/-- The idealized kernel and the reference end with the same four results. -/
theorem algebraic : Cert.algebraic_KernelIdeal_ReferenceIdeal := by
  pair_intro
  · run_from Cert.KernelIdeal.Gen.run_main m g
  · refine (θ_run Cert.ReferenceIdeal.defs _ _).mono (fun r h c => ?_) (Cert.ReferenceIdeal.Stage.run m' g')
    obtain ⟨e0, e1, e2, e3, k⟩ := h c
    obtain ⟨a0, a1, a2, a3, a4, a5, a6⟩ := hagree c
    refine ⟨e0.trans ?_, e1.trans ?_, e2.trans ?_, e3.trans ?_, k⟩
    · rw [a0, a1, a2, a3, a4, a5, a6]
      exact Cert.Same.act m c
    · rw [a0, a1, a2, a4, a6]
      exact Cert.Same.states m c
    · rw [a0, a1, a2, a5, a6]
      exact Cert.Same.norms m c
    · rw [a0, a1, a2, a6]
      exact Cert.Same.stabs m c

/-- Every claim of the certificate. -/
theorem claim : Cert.Claim := ⟨Cert.Kernel.Gen.facts, Cert.KernelIdeal.Gen.facts, Cert.ReferenceIdeal.Gen.facts,
  Cert.ResKernel.Gen.facts, Cert.ResKernelIdeal.Gen.facts, Cert.ResReferenceIdeal.Gen.facts,
  Cert.ProjKernel.Gen.facts, Cert.ProjKernelIdeal.Gen.facts, Cert.ProjReferenceIdeal.Gen.facts,
  Cert.UpKernel.Gen.facts, Cert.UpKernelIdeal.Gen.facts, Cert.UpReferenceIdeal.Gen.facts,
  Cert.MergeKernel.Gen.facts, Cert.MergeKernelIdeal.Gen.facts, Cert.MergeReferenceIdeal.Gen.facts, Cert.Merge.facts_pre,
  frame_kernel, frame_ideal, frame_reference, Cert.Res.frame_kernel, Cert.Res.frame_ideal, Cert.Res.frame_reference,
  Cert.Proj.frame_kernel, Cert.Proj.frame_ideal, Cert.Proj.frame_reference, Cert.Up.frame_kernel, Cert.Up.frame_ideal, Cert.Up.frame_reference,
  Cert.Merge.frame_kernel, Cert.Merge.frame_ideal, Cert.Merge.frame_ideal_finite, Cert.Merge.frame_reference, Cert.Merge.frame_reference_finite,
  trivial, algebraic, trivial, Cert.Res.algebraic, trivial, Cert.Proj.algebraic, trivial, Cert.Up.algebraic,
  trivial, Cert.Merge.algebraic⟩

end Cert.Proof

end
